-- ==== Defs.lean ====
def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainRefIdeal (m : (ℓ : Loc Cert.MainRefIdeal.nD Cert.MainRefIdeal.τ Cert.MainRefIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantRefIdeal (m : (ℓ : Loc Cert.QuantRefIdeal.nD Cert.QuantRefIdeal.τ Cert.QuantRefIdeal.sig) → Buf (Elt Ideal) ℓ) : Prop :=
  True

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1)
      ∧ r.2.mem ((c.tc : Thread Cert.Main.nD Cert.Main.τ).loc Cert.Main.main_arg2) = m ((c.tc : Thread Cert.Main.nD Cert.Main.τ).loc Cert.Main.main_arg2)
      ∧ r.2.mem ((c.tc : Thread Cert.Main.nD Cert.Main.τ).loc Cert.Main.main_arg3) = m ((c.tc : Thread Cert.Main.nD Cert.Main.τ).loc Cert.Main.main_arg3)
      ∧ r.2.mem ((c.tc : Thread Cert.Main.nD Cert.Main.τ).loc Cert.Main.main_arg4) = m ((c.tc : Thread Cert.Main.nD Cert.Main.τ).loc Cert.Main.main_arg4)
      ∧ r.2.mem ((c.tc : Thread Cert.Main.nD Cert.Main.τ).loc Cert.Main.main_arg5) = m ((c.tc : Thread Cert.Main.nD Cert.Main.τ).loc Cert.Main.main_arg5)
      ∧ r.2.mem ((c.tc : Thread Cert.Main.nD Cert.Main.τ).loc Cert.Main.main_arg6) = m ((c.tc : Thread Cert.Main.nD Cert.Main.τ).loc Cert.Main.main_arg6)
      ∧ r.2.mem ((c.tc : Thread Cert.Main.nD Cert.Main.τ).loc Cert.Main.main_arg7) = m ((c.tc : Thread Cert.Main.nD Cert.Main.τ).loc Cert.Main.main_arg7))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
      ∧ r.2.mem ((c.tc : Thread Cert.MainIdeal.nD Cert.MainIdeal.τ).loc Cert.MainIdeal.main_arg7) = m ((c.tc : Thread Cert.MainIdeal.nD Cert.MainIdeal.τ).loc Cert.MainIdeal.main_arg7))
      ∧ r.2.sem = fun _ => 0)

def quiescent_MainRefIdeal [hMainRefIdeal : Cert.MainRefIdeal.Facts] : Prop :=
  ∀ (m : (ℓ : Loc Cert.MainRefIdeal.nD Cert.MainRefIdeal.τ Cert.MainRefIdeal.sig) → Buf (Elt Ideal) ℓ) (g : Dev Cert.MainRefIdeal.nD → PrngReg), Pre_MainRefIdeal m →
    θ_run (Cert.MainRefIdeal.defs (F := Ideal)) (onTc (τ := Cert.MainRefIdeal.τ) (Cert.MainRefIdeal.main (F := Ideal))) ⟨m, fun _ => 0, g⟩ (fun r => (∀ c : Dev Cert.MainRefIdeal.nD,
      r.2.mem ((c.tc : Thread Cert.MainRefIdeal.nD Cert.MainRefIdeal.τ).loc Cert.MainRefIdeal.main_arg0) = m ((c.tc : Thread Cert.MainRefIdeal.nD Cert.MainRefIdeal.τ).loc Cert.MainRefIdeal.main_arg0)
      ∧ r.2.mem ((c.tc : Thread Cert.MainRefIdeal.nD Cert.MainRefIdeal.τ).loc Cert.MainRefIdeal.main_arg1) = m ((c.tc : Thread Cert.MainRefIdeal.nD Cert.MainRefIdeal.τ).loc Cert.MainRefIdeal.main_arg1)
      ∧ r.2.mem ((c.tc : Thread Cert.MainRefIdeal.nD Cert.MainRefIdeal.τ).loc Cert.MainRefIdeal.main_arg2) = m ((c.tc : Thread Cert.MainRefIdeal.nD Cert.MainRefIdeal.τ).loc Cert.MainRefIdeal.main_arg2)
      ∧ r.2.mem ((c.tc : Thread Cert.MainRefIdeal.nD Cert.MainRefIdeal.τ).loc Cert.MainRefIdeal.main_arg3) = m ((c.tc : Thread Cert.MainRefIdeal.nD Cert.MainRefIdeal.τ).loc Cert.MainRefIdeal.main_arg3)
      ∧ r.2.mem ((c.tc : Thread Cert.MainRefIdeal.nD Cert.MainRefIdeal.τ).loc Cert.MainRefIdeal.main_arg4) = m ((c.tc : Thread Cert.MainRefIdeal.nD Cert.MainRefIdeal.τ).loc Cert.MainRefIdeal.main_arg4)
      ∧ r.2.mem ((c.tc : Thread Cert.MainRefIdeal.nD Cert.MainRefIdeal.τ).loc Cert.MainRefIdeal.main_arg5) = m ((c.tc : Thread Cert.MainRefIdeal.nD Cert.MainRefIdeal.τ).loc Cert.MainRefIdeal.main_arg5)
      ∧ r.2.mem ((c.tc : Thread Cert.MainRefIdeal.nD Cert.MainRefIdeal.τ).loc Cert.MainRefIdeal.main_arg6) = m ((c.tc : Thread Cert.MainRefIdeal.nD Cert.MainRefIdeal.τ).loc Cert.MainRefIdeal.main_arg6)
      ∧ r.2.mem ((c.tc : Thread Cert.MainRefIdeal.nD Cert.MainRefIdeal.τ).loc Cert.MainRefIdeal.main_arg7) = m ((c.tc : Thread Cert.MainRefIdeal.nD Cert.MainRefIdeal.τ).loc Cert.MainRefIdeal.main_arg7))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2)
      ∧ r.2.mem ((c.tc : Thread Cert.Quant.nD Cert.Quant.τ).loc Cert.Quant.main_arg3) = m ((c.tc : Thread Cert.Quant.nD Cert.Quant.τ).loc Cert.Quant.main_arg3)
      ∧ r.2.mem ((c.tc : Thread Cert.Quant.nD Cert.Quant.τ).loc Cert.Quant.main_arg4) = m ((c.tc : Thread Cert.Quant.nD Cert.Quant.τ).loc Cert.Quant.main_arg4)
      ∧ r.2.mem ((c.tc : Thread Cert.Quant.nD Cert.Quant.τ).loc Cert.Quant.main_arg5) = m ((c.tc : Thread Cert.Quant.nD Cert.Quant.τ).loc Cert.Quant.main_arg5))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
      ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
      ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3)
      ∧ r.2.mem ((c.tc : Thread Cert.QuantIdeal.nD Cert.QuantIdeal.τ).loc Cert.QuantIdeal.main_arg4) = m ((c.tc : Thread Cert.QuantIdeal.nD Cert.QuantIdeal.τ).loc Cert.QuantIdeal.main_arg4)
      ∧ r.2.mem ((c.tc : Thread Cert.QuantIdeal.nD Cert.QuantIdeal.τ).loc Cert.QuantIdeal.main_arg5) = m ((c.tc : Thread Cert.QuantIdeal.nD Cert.QuantIdeal.τ).loc Cert.QuantIdeal.main_arg5))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0)
      ∧ r.2.mem ((c.tc : Thread Cert.QuantRefIdeal.nD Cert.QuantRefIdeal.τ).loc Cert.QuantRefIdeal.main_arg1) = m ((c.tc : Thread Cert.QuantRefIdeal.nD Cert.QuantRefIdeal.τ).loc Cert.QuantRefIdeal.main_arg1)
      ∧ r.2.mem ((c.tc : Thread Cert.QuantRefIdeal.nD Cert.QuantRefIdeal.τ).loc Cert.QuantRefIdeal.main_arg2) = m ((c.tc : Thread Cert.QuantRefIdeal.nD Cert.QuantRefIdeal.τ).loc Cert.QuantRefIdeal.main_arg2)
      ∧ r.2.mem ((c.tc : Thread Cert.QuantRefIdeal.nD Cert.QuantRefIdeal.τ).loc Cert.QuantRefIdeal.main_arg3) = m ((c.tc : Thread Cert.QuantRefIdeal.nD Cert.QuantRefIdeal.τ).loc Cert.QuantRefIdeal.main_arg3)
      ∧ r.2.mem ((c.tc : Thread Cert.QuantRefIdeal.nD Cert.QuantRefIdeal.τ).loc Cert.QuantRefIdeal.main_arg4) = m ((c.tc : Thread Cert.QuantRefIdeal.nD Cert.QuantRefIdeal.τ).loc Cert.QuantRefIdeal.main_arg4)
      ∧ r.2.mem ((c.tc : Thread Cert.QuantRefIdeal.nD Cert.QuantRefIdeal.τ).loc Cert.QuantRefIdeal.main_arg5) = m ((c.tc : Thread Cert.QuantRefIdeal.nD Cert.QuantRefIdeal.τ).loc Cert.QuantRefIdeal.main_arg5))
      ∧ r.2.sem = fun _ => 0)

def preserves_Main_MainIdeal : Prop :=
  True

def algebraic_MainIdeal_MainRefIdeal [hMainIdeal : Cert.MainIdeal.Facts] [hMainRefIdeal : Cert.MainRefIdeal.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainRefIdeal.nD Cert.MainRefIdeal.τ Cert.MainRefIdeal.sig) → Buf (Elt Ideal) ℓ) (g' : Dev Cert.MainRefIdeal.nD → PrngReg), Pre_MainIdeal m →
    (∀ c : Dev Cert.MainIdeal.nD,
      m' ((c.tc : Thread Cert.MainRefIdeal.nD Cert.MainRefIdeal.τ).loc Cert.MainRefIdeal.main_arg0) = m ((c.tc : Thread Cert.MainIdeal.nD Cert.MainIdeal.τ).loc Cert.MainIdeal.main_arg0)
      ∧ m' ((c.tc : Thread Cert.MainRefIdeal.nD Cert.MainRefIdeal.τ).loc Cert.MainRefIdeal.main_arg1) = m ((c.tc : Thread Cert.MainIdeal.nD Cert.MainIdeal.τ).loc Cert.MainIdeal.main_arg1)
      ∧ m' ((c.tc : Thread Cert.MainRefIdeal.nD Cert.MainRefIdeal.τ).loc Cert.MainRefIdeal.main_arg2) = m ((c.tc : Thread Cert.MainIdeal.nD Cert.MainIdeal.τ).loc Cert.MainIdeal.main_arg2)
      ∧ m' ((c.tc : Thread Cert.MainRefIdeal.nD Cert.MainRefIdeal.τ).loc Cert.MainRefIdeal.main_arg3) = m ((c.tc : Thread Cert.MainIdeal.nD Cert.MainIdeal.τ).loc Cert.MainIdeal.main_arg3)
      ∧ m' ((c.tc : Thread Cert.MainRefIdeal.nD Cert.MainRefIdeal.τ).loc Cert.MainRefIdeal.main_arg4) = m ((c.tc : Thread Cert.MainIdeal.nD Cert.MainIdeal.τ).loc Cert.MainIdeal.main_arg4)
      ∧ m' ((c.tc : Thread Cert.MainRefIdeal.nD Cert.MainRefIdeal.τ).loc Cert.MainRefIdeal.main_arg5) = m ((c.tc : Thread Cert.MainIdeal.nD Cert.MainIdeal.τ).loc Cert.MainIdeal.main_arg5)
      ∧ m' ((c.tc : Thread Cert.MainRefIdeal.nD Cert.MainRefIdeal.τ).loc Cert.MainRefIdeal.main_arg6) = m ((c.tc : Thread Cert.MainIdeal.nD Cert.MainIdeal.τ).loc Cert.MainIdeal.main_arg6)
      ∧ m' ((c.tc : Thread Cert.MainRefIdeal.nD Cert.MainRefIdeal.τ).loc Cert.MainRefIdeal.main_arg7) = m ((c.tc : Thread Cert.MainIdeal.nD Cert.MainIdeal.τ).loc Cert.MainIdeal.main_arg7)) →
    ∃ (v0 : (c : Dev Cert.MainIdeal.nD) → Buf (Elt Ideal) ((c.tc : Thread Cert.MainIdeal.nD Cert.MainIdeal.τ).loc Cert.MainIdeal.main_v2)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v2) = v0 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
          ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
          ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
          ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
          ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
          ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
          ∧ r.2.mem ((c.tc : Thread Cert.MainIdeal.nD Cert.MainIdeal.τ).loc Cert.MainIdeal.main_arg7) = m ((c.tc : Thread Cert.MainIdeal.nD Cert.MainIdeal.τ).loc Cert.MainIdeal.main_arg7))
      ∧ θ_run (Cert.MainRefIdeal.defs (F := Ideal)) (onTc (τ := Cert.MainRefIdeal.τ) (Cert.MainRefIdeal.main (F := Ideal))) ⟨m', fun _ => 0, g'⟩ (fun r => ∀ c : Dev Cert.MainRefIdeal.nD,
          r.2.mem ((c.tc : Thread Cert.MainRefIdeal.nD Cert.MainRefIdeal.τ).loc Cert.MainRefIdeal.main_v2) = v0 c
          ∧ r.2.mem ((c.tc : Thread Cert.MainRefIdeal.nD Cert.MainRefIdeal.τ).loc Cert.MainRefIdeal.main_arg0) = m' ((c.tc : Thread Cert.MainRefIdeal.nD Cert.MainRefIdeal.τ).loc Cert.MainRefIdeal.main_arg0)
          ∧ r.2.mem ((c.tc : Thread Cert.MainRefIdeal.nD Cert.MainRefIdeal.τ).loc Cert.MainRefIdeal.main_arg1) = m' ((c.tc : Thread Cert.MainRefIdeal.nD Cert.MainRefIdeal.τ).loc Cert.MainRefIdeal.main_arg1)
          ∧ r.2.mem ((c.tc : Thread Cert.MainRefIdeal.nD Cert.MainRefIdeal.τ).loc Cert.MainRefIdeal.main_arg2) = m' ((c.tc : Thread Cert.MainRefIdeal.nD Cert.MainRefIdeal.τ).loc Cert.MainRefIdeal.main_arg2)
          ∧ r.2.mem ((c.tc : Thread Cert.MainRefIdeal.nD Cert.MainRefIdeal.τ).loc Cert.MainRefIdeal.main_arg3) = m' ((c.tc : Thread Cert.MainRefIdeal.nD Cert.MainRefIdeal.τ).loc Cert.MainRefIdeal.main_arg3)
          ∧ r.2.mem ((c.tc : Thread Cert.MainRefIdeal.nD Cert.MainRefIdeal.τ).loc Cert.MainRefIdeal.main_arg4) = m' ((c.tc : Thread Cert.MainRefIdeal.nD Cert.MainRefIdeal.τ).loc Cert.MainRefIdeal.main_arg4)
          ∧ r.2.mem ((c.tc : Thread Cert.MainRefIdeal.nD Cert.MainRefIdeal.τ).loc Cert.MainRefIdeal.main_arg5) = m' ((c.tc : Thread Cert.MainRefIdeal.nD Cert.MainRefIdeal.τ).loc Cert.MainRefIdeal.main_arg5)
          ∧ r.2.mem ((c.tc : Thread Cert.MainRefIdeal.nD Cert.MainRefIdeal.τ).loc Cert.MainRefIdeal.main_arg6) = m' ((c.tc : Thread Cert.MainRefIdeal.nD Cert.MainRefIdeal.τ).loc Cert.MainRefIdeal.main_arg6)
          ∧ r.2.mem ((c.tc : Thread Cert.MainRefIdeal.nD Cert.MainRefIdeal.τ).loc Cert.MainRefIdeal.main_arg7) = m' ((c.tc : Thread Cert.MainRefIdeal.nD Cert.MainRefIdeal.τ).loc Cert.MainRefIdeal.main_arg7))

def preserves_Quant_QuantIdeal : Prop :=
  True

def algebraic_QuantIdeal_QuantRefIdeal [hQuantIdeal : Cert.QuantIdeal.Facts] [hQuantRefIdeal : Cert.QuantRefIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)
      ∧ m' ((c.tc : Thread Cert.QuantRefIdeal.nD Cert.QuantRefIdeal.τ).loc Cert.QuantRefIdeal.main_arg1) = m ((c.tc : Thread Cert.QuantIdeal.nD Cert.QuantIdeal.τ).loc Cert.QuantIdeal.main_arg1)
      ∧ m' ((c.tc : Thread Cert.QuantRefIdeal.nD Cert.QuantRefIdeal.τ).loc Cert.QuantRefIdeal.main_arg2) = m ((c.tc : Thread Cert.QuantIdeal.nD Cert.QuantIdeal.τ).loc Cert.QuantIdeal.main_arg2)
      ∧ m' ((c.tc : Thread Cert.QuantRefIdeal.nD Cert.QuantRefIdeal.τ).loc Cert.QuantRefIdeal.main_arg3) = m ((c.tc : Thread Cert.QuantIdeal.nD Cert.QuantIdeal.τ).loc Cert.QuantIdeal.main_arg3)
      ∧ m' ((c.tc : Thread Cert.QuantRefIdeal.nD Cert.QuantRefIdeal.τ).loc Cert.QuantRefIdeal.main_arg4) = m ((c.tc : Thread Cert.QuantIdeal.nD Cert.QuantIdeal.τ).loc Cert.QuantIdeal.main_arg4)
      ∧ m' ((c.tc : Thread Cert.QuantRefIdeal.nD Cert.QuantRefIdeal.τ).loc Cert.QuantRefIdeal.main_arg5) = m ((c.tc : Thread Cert.QuantIdeal.nD Cert.QuantIdeal.τ).loc Cert.QuantIdeal.main_arg5)) →
    ∃ (v0 : (c : Dev Cert.QuantIdeal.nD) → Buf (Elt Ideal) ((c.tc : Thread Cert.QuantIdeal.nD Cert.QuantIdeal.τ).loc Cert.QuantIdeal.main_v12_0)) (v1 : (c : Dev Cert.QuantIdeal.nD) → Buf (Elt Ideal) ((c.tc : Thread Cert.QuantIdeal.nD Cert.QuantIdeal.τ).loc Cert.QuantIdeal.main_v12_1)) (v2 : (c : Dev Cert.QuantIdeal.nD) → Buf (Elt Ideal) ((c.tc : Thread Cert.QuantIdeal.nD Cert.QuantIdeal.τ).loc Cert.QuantIdeal.main_v12_2)) (v3 : (c : Dev Cert.QuantIdeal.nD) → Buf (Elt Ideal) ((c.tc : Thread Cert.QuantIdeal.nD Cert.QuantIdeal.τ).loc Cert.QuantIdeal.main_v12_3)) (v4 : (c : Dev Cert.QuantIdeal.nD) → Buf (Elt Ideal) ((c.tc : Thread Cert.QuantIdeal.nD Cert.QuantIdeal.τ).loc Cert.QuantIdeal.main_v12_4)) (v5 : (c : Dev Cert.QuantIdeal.nD) → Buf (Elt Ideal) ((c.tc : Thread Cert.QuantIdeal.nD Cert.QuantIdeal.τ).loc Cert.QuantIdeal.main_v12_5)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v12_0) = v0 c
          ∧ r.2.mem ((c.tc : Thread Cert.QuantIdeal.nD Cert.QuantIdeal.τ).loc Cert.QuantIdeal.main_v12_1) = v1 c
          ∧ r.2.mem ((c.tc : Thread Cert.QuantIdeal.nD Cert.QuantIdeal.τ).loc Cert.QuantIdeal.main_v12_2) = v2 c
          ∧ r.2.mem ((c.tc : Thread Cert.QuantIdeal.nD Cert.QuantIdeal.τ).loc Cert.QuantIdeal.main_v12_3) = v3 c
          ∧ r.2.mem ((c.tc : Thread Cert.QuantIdeal.nD Cert.QuantIdeal.τ).loc Cert.QuantIdeal.main_v12_4) = v4 c
          ∧ r.2.mem ((c.tc : Thread Cert.QuantIdeal.nD Cert.QuantIdeal.τ).loc Cert.QuantIdeal.main_v12_5) = v5 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
          ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
          ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3)
          ∧ r.2.mem ((c.tc : Thread Cert.QuantIdeal.nD Cert.QuantIdeal.τ).loc Cert.QuantIdeal.main_arg4) = m ((c.tc : Thread Cert.QuantIdeal.nD Cert.QuantIdeal.τ).loc Cert.QuantIdeal.main_arg4)
          ∧ r.2.mem ((c.tc : Thread Cert.QuantIdeal.nD Cert.QuantIdeal.τ).loc Cert.QuantIdeal.main_arg5) = m ((c.tc : Thread Cert.QuantIdeal.nD Cert.QuantIdeal.τ).loc Cert.QuantIdeal.main_arg5))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v12_0) = v0 c
          ∧ r.2.mem ((c.tc : Thread Cert.QuantRefIdeal.nD Cert.QuantRefIdeal.τ).loc Cert.QuantRefIdeal.main_v12_1) = v1 c
          ∧ r.2.mem ((c.tc : Thread Cert.QuantRefIdeal.nD Cert.QuantRefIdeal.τ).loc Cert.QuantRefIdeal.main_v12_2) = v2 c
          ∧ r.2.mem ((c.tc : Thread Cert.QuantRefIdeal.nD Cert.QuantRefIdeal.τ).loc Cert.QuantRefIdeal.main_v12_3) = v3 c
          ∧ r.2.mem ((c.tc : Thread Cert.QuantRefIdeal.nD Cert.QuantRefIdeal.τ).loc Cert.QuantRefIdeal.main_v12_4) = v4 c
          ∧ r.2.mem ((c.tc : Thread Cert.QuantRefIdeal.nD Cert.QuantRefIdeal.τ).loc Cert.QuantRefIdeal.main_v12_5) = v5 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0)
          ∧ r.2.mem ((c.tc : Thread Cert.QuantRefIdeal.nD Cert.QuantRefIdeal.τ).loc Cert.QuantRefIdeal.main_arg1) = m' ((c.tc : Thread Cert.QuantRefIdeal.nD Cert.QuantRefIdeal.τ).loc Cert.QuantRefIdeal.main_arg1)
          ∧ r.2.mem ((c.tc : Thread Cert.QuantRefIdeal.nD Cert.QuantRefIdeal.τ).loc Cert.QuantRefIdeal.main_arg2) = m' ((c.tc : Thread Cert.QuantRefIdeal.nD Cert.QuantRefIdeal.τ).loc Cert.QuantRefIdeal.main_arg2)
          ∧ r.2.mem ((c.tc : Thread Cert.QuantRefIdeal.nD Cert.QuantRefIdeal.τ).loc Cert.QuantRefIdeal.main_arg3) = m' ((c.tc : Thread Cert.QuantRefIdeal.nD Cert.QuantRefIdeal.τ).loc Cert.QuantRefIdeal.main_arg3)
          ∧ r.2.mem ((c.tc : Thread Cert.QuantRefIdeal.nD Cert.QuantRefIdeal.τ).loc Cert.QuantRefIdeal.main_arg4) = m' ((c.tc : Thread Cert.QuantRefIdeal.nD Cert.QuantRefIdeal.τ).loc Cert.QuantRefIdeal.main_arg4)
          ∧ r.2.mem ((c.tc : Thread Cert.QuantRefIdeal.nD Cert.QuantRefIdeal.τ).loc Cert.QuantRefIdeal.main_arg5) = m' ((c.tc : Thread Cert.QuantRefIdeal.nD Cert.QuantRefIdeal.τ).loc Cert.QuantRefIdeal.main_arg5))

def Claim : Prop :=
  ∃ (hMain : Cert.Main.Facts) (hMainIdeal : Cert.MainIdeal.Facts) (hMainRefIdeal : Cert.MainRefIdeal.Facts) (hQuant : Cert.Quant.Facts) (hQuantIdeal : Cert.QuantIdeal.Facts) (hQuantRefIdeal : Cert.QuantRefIdeal.Facts),
    quiescent_Main (hMain := hMain)
    ∧ quiescent_MainIdeal (hMainIdeal := hMainIdeal)
    ∧ quiescent_MainRefIdeal (hMainRefIdeal := hMainRefIdeal)
    ∧ quiescent_Quant (hQuant := hQuant)
    ∧ quiescent_QuantIdeal (hQuantIdeal := hQuantIdeal)
    ∧ quiescent_QuantRefIdeal (hQuantRefIdeal := hQuantRefIdeal)
    ∧ preserves_Main_MainIdeal
    ∧ algebraic_MainIdeal_MainRefIdeal (hMainIdeal := hMainIdeal) (hMainRefIdeal := hMainRefIdeal)
    ∧ preserves_Quant_QuantIdeal
    ∧ algebraic_QuantIdeal_QuantRefIdeal (hQuantIdeal := hQuantIdeal) (hQuantRefIdeal := hQuantRefIdeal)
-- ==== Main.lean ====
abbrev S2560x16384 : Shape := ⟨2, ![2560, 16384]⟩
abbrev S16384x18432 : Shape := ⟨2, ![16384, 18432]⟩
abbrev S18432 : Shape := ⟨1, ![18432]⟩
abbrev S2560x1 : Shape := ⟨2, ![2560, 1]⟩
abbrev S2560x64 : Shape := ⟨2, ![2560, 64]⟩
abbrev S64x18432 : Shape := ⟨2, ![64, 18432]⟩
abbrev S1x18432 : Shape := ⟨2, ![1, 18432]⟩
abbrev S2560x18432 : Shape := ⟨2, ![2560, 18432]⟩
abbrev S512x16384 : Shape := ⟨2, ![512, 16384]⟩
abbrev S16384x512 : Shape := ⟨2, ![16384, 512]⟩
abbrev S1x512 : Shape := ⟨2, ![1, 512]⟩
abbrev S512x1 : Shape := ⟨2, ![512, 1]⟩
abbrev S512x64 : Shape := ⟨2, ![512, 64]⟩
abbrev S64x512 : Shape := ⟨2, ![64, 512]⟩
abbrev S512x512 : Shape := ⟨2, ![512, 512]⟩

abbrev nBuf : Space → Nat
  | .hbm => 11
  | .vmem => 18
  | .smem => 0
  | _ => 0

abbrev bufTy : (tb : Table) → Fin (tcTables nBuf tb) → BufTy
  | .hbm, ⟨0, _⟩ => ⟨S2560x16384, .fp8e4m3⟩
  | .hbm, ⟨1, _⟩ => ⟨S16384x18432, .fp8e4m3⟩
  | .hbm, ⟨2, _⟩ => ⟨S18432, .f32⟩
  | .hbm, ⟨3, _⟩ => ⟨S2560x1, .f32⟩
  | .hbm, ⟨4, _⟩ => ⟨S2560x64, .fp8e4m3⟩
  | .hbm, ⟨5, _⟩ => ⟨S64x18432, .fp8e4m3⟩
  | .hbm, ⟨6, _⟩ => ⟨S18432, .f32⟩
  | .hbm, ⟨7, _⟩ => ⟨S2560x1, .f32⟩
  | .hbm, ⟨8, _⟩ => ⟨S1x18432, .f32⟩
  | .hbm, ⟨9, _⟩ => ⟨S1x18432, .f32⟩
  | .hbm, ⟨10, _⟩ => ⟨S2560x18432, .bf16⟩
  | .local _ .vmem, ⟨0, _⟩ => ⟨S512x16384, .fp8e4m3⟩
  | .local _ .vmem, ⟨1, _⟩ => ⟨S512x16384, .fp8e4m3⟩
  | .local _ .vmem, ⟨2, _⟩ => ⟨S16384x512, .fp8e4m3⟩
  | .local _ .vmem, ⟨3, _⟩ => ⟨S16384x512, .fp8e4m3⟩
  | .local _ .vmem, ⟨4, _⟩ => ⟨S1x512, .f32⟩
  | .local _ .vmem, ⟨5, _⟩ => ⟨S1x512, .f32⟩
  | .local _ .vmem, ⟨6, _⟩ => ⟨S512x1, .f32⟩
  | .local _ .vmem, ⟨7, _⟩ => ⟨S512x1, .f32⟩
  | .local _ .vmem, ⟨8, _⟩ => ⟨S512x64, .fp8e4m3⟩
  | .local _ .vmem, ⟨9, _⟩ => ⟨S512x64, .fp8e4m3⟩
  | .local _ .vmem, ⟨10, _⟩ => ⟨S64x512, .fp8e4m3⟩
  | .local _ .vmem, ⟨11, _⟩ => ⟨S64x512, .fp8e4m3⟩
  | .local _ .vmem, ⟨12, _⟩ => ⟨S1x512, .f32⟩
  | .local _ .vmem, ⟨13, _⟩ => ⟨S1x512, .f32⟩
  | .local _ .vmem, ⟨14, _⟩ => ⟨S512x1, .f32⟩
  | .local _ .vmem, ⟨15, _⟩ => ⟨S512x1, .f32⟩
  | .local _ .vmem, ⟨16, _⟩ => ⟨S512x512, .bf16⟩
  | .local _ .vmem, ⟨17, _⟩ => ⟨S512x512, .bf16⟩
  | _, _ => ⟨S2560x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![5, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x16384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16384x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x64 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MainRefIdeal.lean ====
abbrev S2560x16384 : Shape := ⟨2, ![2560, 16384]⟩
abbrev S16384x18432 : Shape := ⟨2, ![16384, 18432]⟩
abbrev S18432 : Shape := ⟨1, ![18432]⟩
abbrev S2560x1 : Shape := ⟨2, ![2560, 1]⟩
abbrev S2560x64 : Shape := ⟨2, ![2560, 64]⟩
abbrev S64x18432 : Shape := ⟨2, ![64, 18432]⟩
abbrev S1x18432 : Shape := ⟨2, ![1, 18432]⟩
abbrev S2560x18432 : Shape := ⟨2, ![2560, 18432]⟩

abbrev nBuf : Space → Nat
  | .hbm => 11
  | .vmem => 9
  | .smem => 0
  | _ => 0

abbrev bufTy : (tb : Table) → Fin (tcTables nBuf tb) → BufTy
  | .hbm, ⟨0, _⟩ => ⟨S2560x16384, .fp8e4m3⟩
  | .hbm, ⟨1, _⟩ => ⟨S16384x18432, .fp8e4m3⟩
  | .hbm, ⟨2, _⟩ => ⟨S18432, .f32⟩
  | .hbm, ⟨3, _⟩ => ⟨S2560x1, .f32⟩
  | .hbm, ⟨4, _⟩ => ⟨S2560x64, .fp8e4m3⟩
  | .hbm, ⟨5, _⟩ => ⟨S64x18432, .fp8e4m3⟩
  | .hbm, ⟨6, _⟩ => ⟨S18432, .f32⟩
  | .hbm, ⟨7, _⟩ => ⟨S2560x1, .f32⟩
  | .hbm, ⟨8, _⟩ => ⟨S1x18432, .f32⟩
  | .hbm, ⟨9, _⟩ => ⟨S1x18432, .f32⟩
  | .hbm, ⟨10, _⟩ => ⟨S2560x18432, .bf16⟩
  | .local _ .vmem, ⟨0, _⟩ => ⟨S2560x16384, .fp8e4m3⟩
  | .local _ .vmem, ⟨1, _⟩ => ⟨S16384x18432, .fp8e4m3⟩
  | .local _ .vmem, ⟨2, _⟩ => ⟨S1x18432, .f32⟩
  | .local _ .vmem, ⟨3, _⟩ => ⟨S2560x1, .f32⟩
  | .local _ .vmem, ⟨4, _⟩ => ⟨S2560x64, .fp8e4m3⟩
  | .local _ .vmem, ⟨5, _⟩ => ⟨S64x18432, .fp8e4m3⟩
  | .local _ .vmem, ⟨6, _⟩ => ⟨S1x18432, .f32⟩
  | .local _ .vmem, ⟨7, _⟩ => ⟨S2560x1, .f32⟩
  | .local _ .vmem, ⟨8, _⟩ => ⟨S2560x18432, .bf16⟩
  | _, _ => ⟨S2560x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2560x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x18432 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x18432 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x18432 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2560x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2560x18432 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Quant.lean ====
abbrev S2x1280x16384 : Shape := ⟨3, ![2, 1280, 16384]⟩
abbrev S64x16384 : Shape := ⟨2, ![64, 16384]⟩
abbrev S64 : Shape := ⟨1, ![64]⟩
abbrev S21x64x64 : Shape := ⟨3, ![21, 64, 64]⟩
abbrev S21x2x64 : Shape := ⟨3, ![21, 2, 64]⟩
abbrev S21 : Shape := ⟨1, ![21]⟩
abbrev S_ : Shape := ⟨0, ![]⟩
abbrev S1 : Shape := ⟨1, ![1]⟩
abbrev S22 : Shape := ⟨1, ![22]⟩
abbrev S1344x64 : Shape := ⟨2, ![1344, 64]⟩
abbrev S21x2x32x64 : Shape := ⟨4, ![21, 2, 32, 64]⟩
abbrev S1536x64 : Shape := ⟨2, ![1536, 64]⟩
abbrev S2560x16384 : Shape := ⟨2, ![2560, 16384]⟩
abbrev S1x64 : Shape := ⟨2, ![1, 64]⟩
abbrev S2560x1 : Shape := ⟨2, ![2560, 1]⟩
abbrev S2560x64 : Shape := ⟨2, ![2560, 64]⟩
abbrev S128x16384 : Shape := ⟨2, ![128, 16384]⟩
abbrev S128x1 : Shape := ⟨2, ![128, 1]⟩
abbrev S128x64 : Shape := ⟨2, ![128, 64]⟩
abbrev S128 : Shape := ⟨1, ![128]⟩
abbrev S1x253 : Shape := ⟨2, ![1, 253]⟩
abbrev S128x253 : Shape := ⟨2, ![128, 253]⟩
abbrev S128x1536 : Shape := ⟨2, ![128, 1536]⟩

abbrev nBuf : Space → Nat
  | .hbm => 30
  | .vmem => 18
  | .smem => 1
  | _ => 0

abbrev bufTy : (tb : Table) → Fin (tcTables nBuf tb) → BufTy
  | .hbm, ⟨0, _⟩ => ⟨S2x1280x16384, .bf16⟩
  | .hbm, ⟨1, _⟩ => ⟨S64x16384, .fp8e4m3⟩
  | .hbm, ⟨2, _⟩ => ⟨S64, .f32⟩
  | .hbm, ⟨3, _⟩ => ⟨S21x64x64, .i8⟩
  | .hbm, ⟨4, _⟩ => ⟨S21x2x64, .f32⟩
  | .hbm, ⟨5, _⟩ => ⟨S21, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S21, .i32⟩
  | .hbm, ⟨11, _⟩ => ⟨S1344x64, .i8⟩
  | .hbm, ⟨12, _⟩ => ⟨S21x2x32x64, .f32⟩
  | .hbm, ⟨13, _⟩ => ⟨S21x64x64, .f32⟩
  | .hbm, ⟨14, _⟩ => ⟨S21x64x64, .bf16⟩
  | .hbm, ⟨15, _⟩ => ⟨S1344x64, .bf16⟩
  | .hbm, ⟨16, _⟩ => ⟨S_, .i32⟩
  | .hbm, ⟨17, _⟩ => ⟨S_, .i8⟩
  | .hbm, ⟨18, _⟩ => ⟨S1536x64, .i8⟩
  | .hbm, ⟨19, _⟩ => ⟨S_, .i32⟩
  | .hbm, ⟨20, _⟩ => ⟨S_, .bf16⟩
  | .hbm, ⟨21, _⟩ => ⟨S1536x64, .bf16⟩
  | .hbm, ⟨22, _⟩ => ⟨S2560x16384, .bf16⟩
  | .hbm, ⟨23, _⟩ => ⟨S1x64, .f32⟩
  | .hbm, ⟨24, _⟩ => ⟨S2560x16384, .fp8e4m3⟩
  | .hbm, ⟨25, _⟩ => ⟨S2560x1, .f32⟩
  | .hbm, ⟨26, _⟩ => ⟨S2560x64, .i8⟩
  | .hbm, ⟨27, _⟩ => ⟨S2560x1, .f32⟩
  | .hbm, ⟨28, _⟩ => ⟨S2560x64, .fp8e4m3⟩
  | .hbm, ⟨29, _⟩ => ⟨S2560x1, .f32⟩
  | .local _ .vmem, ⟨0, _⟩ => ⟨S128x16384, .bf16⟩
  | .local _ .vmem, ⟨1, _⟩ => ⟨S128x16384, .bf16⟩
  | .local _ .vmem, ⟨2, _⟩ => ⟨S64x16384, .fp8e4m3⟩
  | .local _ .vmem, ⟨3, _⟩ => ⟨S1x64, .f32⟩
  | .local _ .vmem, ⟨4, _⟩ => ⟨S1536x64, .i8⟩
  | .local _ .vmem, ⟨5, _⟩ => ⟨S1536x64, .bf16⟩
  | .local _ .vmem, ⟨6, _⟩ => ⟨S128x16384, .fp8e4m3⟩
  | .local _ .vmem, ⟨7, _⟩ => ⟨S128x16384, .fp8e4m3⟩
  | .local _ .vmem, ⟨8, _⟩ => ⟨S128x1, .f32⟩
  | .local _ .vmem, ⟨9, _⟩ => ⟨S128x1, .f32⟩
  | .local _ .vmem, ⟨10, _⟩ => ⟨S128x64, .i8⟩
  | .local _ .vmem, ⟨11, _⟩ => ⟨S128x64, .i8⟩
  | .local _ .vmem, ⟨12, _⟩ => ⟨S128x1, .f32⟩
  | .local _ .vmem, ⟨13, _⟩ => ⟨S128x1, .f32⟩
  | .local _ .vmem, ⟨14, _⟩ => ⟨S128x64, .fp8e4m3⟩
  | .local _ .vmem, ⟨15, _⟩ => ⟨S128x64, .fp8e4m3⟩
  | .local _ .vmem, ⟨16, _⟩ => ⟨S128x1, .f32⟩
  | .local _ .vmem, ⟨17, _⟩ => ⟨S128x1, .f32⟩
  | .local _ .smem, ⟨0, _⟩ => ⟨S22, .i32⟩
  | _, _ => ⟨S2x1280x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_call0_c : Ref sig .tc := ⟨.hbm, 8, rfl⟩
abbrev main_call0_call0_v0 : Ref sig .tc := ⟨.hbm, 9, rfl⟩
abbrev main_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_c_1 : Ref sig .tc := ⟨.hbm, 19, rfl⟩
abbrev main_call2_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![20], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x64 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x16384 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x64 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x64 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QuantRefIdeal.lean ====
abbrev S2x1280x16384 : Shape := ⟨3, ![2, 1280, 16384]⟩
abbrev S64x16384 : Shape := ⟨2, ![64, 16384]⟩
abbrev S64 : Shape := ⟨1, ![64]⟩
abbrev S21x64x64 : Shape := ⟨3, ![21, 64, 64]⟩
abbrev S21x2x64 : Shape := ⟨3, ![21, 2, 64]⟩
abbrev S21 : Shape := ⟨1, ![21]⟩
abbrev S_ : Shape := ⟨0, ![]⟩
abbrev S1 : Shape := ⟨1, ![1]⟩
abbrev S22 : Shape := ⟨1, ![22]⟩
abbrev S21x1x1 : Shape := ⟨3, ![21, 1, 1]⟩
abbrev S21x2x32x64 : Shape := ⟨4, ![21, 2, 32, 64]⟩
abbrev S2560x16384 : Shape := ⟨2, ![2560, 16384]⟩
abbrev S1x64 : Shape := ⟨2, ![1, 64]⟩
abbrev S2560x1 : Shape := ⟨2, ![2560, 1]⟩
abbrev S2560x64 : Shape := ⟨2, ![2560, 64]⟩
abbrev S2560 : Shape := ⟨1, ![2560]⟩
abbrev S21x2560x64 : Shape := ⟨3, ![21, 2560, 64]⟩
abbrev S1x2560x64 : Shape := ⟨3, ![1, 2560, 64]⟩

abbrev nBuf : Space → Nat
  | .hbm => 27
  | .vmem => 13
  | .smem => 0
  | _ => 0

abbrev bufTy : (tb : Table) → Fin (tcTables nBuf tb) → BufTy
  | .hbm, ⟨0, _⟩ => ⟨S2x1280x16384, .bf16⟩
  | .hbm, ⟨1, _⟩ => ⟨S64x16384, .fp8e4m3⟩
  | .hbm, ⟨2, _⟩ => ⟨S64, .f32⟩
  | .hbm, ⟨3, _⟩ => ⟨S21x64x64, .i8⟩
  | .hbm, ⟨4, _⟩ => ⟨S21x2x64, .f32⟩
  | .hbm, ⟨5, _⟩ => ⟨S21, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S21, .i32⟩
  | .hbm, ⟨11, _⟩ => ⟨S22, .i32⟩
  | .hbm, ⟨12, _⟩ => ⟨S21, .i32⟩
  | .hbm, ⟨13, _⟩ => ⟨S21x1x1, .i32⟩
  | .hbm, ⟨14, _⟩ => ⟨S21, .i32⟩
  | .hbm, ⟨15, _⟩ => ⟨S21x1x1, .i32⟩
  | .hbm, ⟨16, _⟩ => ⟨S21x2x32x64, .f32⟩
  | .hbm, ⟨17, _⟩ => ⟨S21x64x64, .f32⟩
  | .hbm, ⟨18, _⟩ => ⟨S21x64x64, .bf16⟩
  | .hbm, ⟨19, _⟩ => ⟨S2560x16384, .bf16⟩
  | .hbm, ⟨20, _⟩ => ⟨S1x64, .f32⟩
  | .hbm, ⟨21, _⟩ => ⟨S2560x16384, .fp8e4m3⟩
  | .hbm, ⟨22, _⟩ => ⟨S2560x1, .f32⟩
  | .hbm, ⟨23, _⟩ => ⟨S2560x64, .i8⟩
  | .hbm, ⟨24, _⟩ => ⟨S2560x1, .f32⟩
  | .hbm, ⟨25, _⟩ => ⟨S2560x64, .fp8e4m3⟩
  | .hbm, ⟨26, _⟩ => ⟨S2560x1, .f32⟩
  | .local _ .vmem, ⟨0, _⟩ => ⟨S2560x16384, .bf16⟩
  | .local _ .vmem, ⟨1, _⟩ => ⟨S64x16384, .fp8e4m3⟩
  | .local _ .vmem, ⟨2, _⟩ => ⟨S1x64, .f32⟩
  | .local _ .vmem, ⟨3, _⟩ => ⟨S21x64x64, .i8⟩
  | .local _ .vmem, ⟨4, _⟩ => ⟨S21x64x64, .bf16⟩
  | .local _ .vmem, ⟨5, _⟩ => ⟨S21x1x1, .i32⟩
  | .local _ .vmem, ⟨6, _⟩ => ⟨S21x1x1, .i32⟩
  | .local _ .vmem, ⟨7, _⟩ => ⟨S2560x16384, .fp8e4m3⟩
  | .local _ .vmem, ⟨8, _⟩ => ⟨S2560x1, .f32⟩
  | .local _ .vmem, ⟨9, _⟩ => ⟨S2560x64, .i8⟩
  | .local _ .vmem, ⟨10, _⟩ => ⟨S2560x1, .f32⟩
  | .local _ .vmem, ⟨11, _⟩ => ⟨S2560x64, .fp8e4m3⟩
  | .local _ .vmem, ⟨12, _⟩ => ⟨S2560x1, .f32⟩
  | _, _ => ⟨S2x1280x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_call0_c : Ref sig .tc := ⟨.hbm, 8, rfl⟩
abbrev main_call0_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev main_v12_5 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S2560x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S21x64x64 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S21x64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S21x1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S21x1x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2560x16384 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2560x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2560x64 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2560x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2560x64 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2560x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Scaled.lean ====
/-
  Hand-written, untrusted. The arithmetic both programs of the matrix product share, at the ideal instance and at any
  extents: one element of `(xc @ w) * xs * ws + (hc @ u) * hs * us`, a sum of two products each scaled by a column of row
  scales and by a row of column scales.
-/
module

public import Idealize.ShloMosaic.Lib.MatmulPlain
public import Idealize.ShloMosaic.Lib.ValueIdx
public import Idealize.ShloMosaic.Lib.Pipeline.Value

@[expose] public section

noncomputable section

namespace Cert.Proof.Scaled

open Idealize.ShloMosaic Idealize.ShloMosaic.ValueIdx
open scoped BigOperators

variable {M K N : ℕ}

/-- Element `(r, c)` of a product scaled by a column `a` of row scales and a row `b` of column scales. -/
def scaled (lhs : (⟨2, ![M, K]⟩ : Shape).Idx → EReal) (rhs : (⟨2, ![K, N]⟩ : Shape).Idx → EReal)
    (a : (⟨2, ![M, 1]⟩ : Shape).Idx → EReal) (b : (⟨2, ![1, N]⟩ : Shape).Idx → EReal) (r : Fin M) (c : Fin N) : EReal :=
  (∑ k : Fin K, lhs (ix2 r k) * rhs (ix2 k c)) * a (ix2 r 0) * b (ix2 0 c)

/-- The array of sums of two scaled products. -/
def sumScaled {K' : ℕ} (l : (⟨2, ![M, K]⟩ : Shape).Idx → EReal) (r : (⟨2, ![K, N]⟩ : Shape).Idx → EReal)
    (a : (⟨2, ![M, 1]⟩ : Shape).Idx → EReal) (b : (⟨2, ![1, N]⟩ : Shape).Idx → EReal)
    (l' : (⟨2, ![M, K']⟩ : Shape).Idx → EReal) (r' : (⟨2, ![K', N]⟩ : Shape).Idx → EReal)
    (a' : (⟨2, ![M, 1]⟩ : Shape).Idx → EReal) (b' : (⟨2, ![1, N]⟩ : Shape).Idx → EReal) : (⟨2, ![M, N]⟩ : Shape).Idx → EReal :=
  fun i => scaled l r a b (i 0) (i 1) + scaled l' r' a' b' (i 0) (i 1)

/-- Equal operands give equal arrays. -/
theorem sumScaled_congr {K' : ℕ} {l₁ l₂ : (⟨2, ![M, K]⟩ : Shape).Idx → EReal} {r₁ r₂ : (⟨2, ![K, N]⟩ : Shape).Idx → EReal}
    {a₁ a₂ : (⟨2, ![M, 1]⟩ : Shape).Idx → EReal} {b₁ b₂ : (⟨2, ![1, N]⟩ : Shape).Idx → EReal}
    {l₁' l₂' : (⟨2, ![M, K']⟩ : Shape).Idx → EReal} {r₁' r₂' : (⟨2, ![K', N]⟩ : Shape).Idx → EReal}
    {a₁' a₂' : (⟨2, ![M, 1]⟩ : Shape).Idx → EReal} {b₁' b₂' : (⟨2, ![1, N]⟩ : Shape).Idx → EReal}
    (hl : l₁ = l₂) (hr : r₁ = r₂) (ha : a₁ = a₂) (hb : b₁ = b₂) (hl' : l₁' = l₂') (hr' : r₁' = r₂') (ha' : a₁' = a₂')
    (hb' : b₁' = b₂') : sumScaled l₁ r₁ a₁ b₁ l₁' r₁' a₁' b₁' = sumScaled l₂ r₂ a₂ b₂ l₂' r₂' a₂' b₂' := by
  rw [hl, hr, ha, hb, hl', hr', ha', hb']

/-- A column broadcast along the rows reads its row's entry. -/
theorem broadcast_col (x : (⟨2, ![M, 1]⟩ : Shape).Idx → EReal) (h : (⟨2, ![M, 1]⟩ : Shape).Broadcasts ⟨2, ![M, N]⟩)
    (r : Fin M) (c : Fin N) : broadcastTo ⟨2, ![M, N]⟩ x h (ix2 r c) = x (ix2 r 0) := by
  refine broadcastTo_apply x h (ix2 r c) (ix2 r 0) fun a => ?_
  match a with
  | ⟨0, _⟩ =>
    show r.val = if M = 1 then 0 else r.val
    split
    · have := r.isLt; omega
    · rfl
  | ⟨1, _⟩ => rfl

/-- A row broadcast down the columns reads its column's entry. -/
theorem broadcast_row (x : (⟨2, ![1, N]⟩ : Shape).Idx → EReal) (h : (⟨2, ![1, N]⟩ : Shape).Broadcasts ⟨2, ![M, N]⟩)
    (r : Fin M) (c : Fin N) : broadcastTo ⟨2, ![M, N]⟩ x h (ix2 r c) = x (ix2 0 c) := by
  refine broadcastTo_apply x h (ix2 r c) (ix2 0 c) fun a => ?_
  match a with
  | ⟨0, _⟩ => rfl
  | ⟨1, _⟩ =>
    show c.val = if N = 1 then 0 else c.val
    split
    · have := c.isLt; omega
    · rfl

/-- One scaled product as the programs write it, read at an index. -/
theorem scaled_apply {φ₁ φ₂ : FTy} (lhs : FVec Ideal ⟨2, ![M, K]⟩ φ₁) (rhs : FVec Ideal ⟨2, ![K, N]⟩ φ₂)
    (a : FVec Ideal ⟨2, ![M, 1]⟩ .f32) (b : FVec Ideal ⟨2, ![1, N]⟩ .f32)
    (ha : (⟨2, ![M, 1]⟩ : Shape).Broadcasts ⟨2, ![M, N]⟩) (hb : (⟨2, ![1, N]⟩ : Shape).Broadcasts ⟨2, ![M, N]⟩)
    (hc : (⟨2, ![1, N]⟩ : Shape).ShapeCasts ⟨2, ![1, N]⟩) (r : Fin M) (c : Fin N) :
    mulf (mulf (FloatOps.matmul (DotDims.plain M K N) none lhs rhs (constant ⟨2, ![M, N]⟩ .f32 0x00000000#32))
      (broadcastTo ⟨2, ![M, N]⟩ a ha)) (broadcastTo ⟨2, ![M, N]⟩ (shapeCast ⟨2, ![1, N]⟩ b hc) hb) (ix2 r c)
      = scaled lhs rhs a b r c := by
  rw [mulf_apply, mulf_apply, shapeCast_self, broadcast_col, broadcast_row, Ideal.matmul_plain_apply, constant_apply,
    Ideal.ofBits_zero_f32, zero_add]
  rfl

end Cert.Proof.Scaled

end
-- ==== Proof.MainValue.lean ====
/-
  Hand-written, untrusted. THE BLOCKED MATRIX PRODUCT'S VALUE at the ideal instance: after the run element `(r, c)` of the
  result is the scaled product of row `r` of the codes with column `c` of the weights plus the scaled low-rank product
  (`Scaled.scaled`), whichever of the 5 × 36 blocks the element lies in.
-/
module

public import proofs.«01_k».proof.Defs
public import proofs.«01_k».proof.Proof.Gen.MainIdeal.Value
public import proofs.«01_k».proof.Proof.Scaled

@[expose] public section

noncomputable section

namespace Cert.Proof.MainValue

open Idealize.ShloMosaic Idealize.SL.Sem Idealize.ShloMosaic.ValueIdx Cert.MainIdeal
open Cert.MainIdeal.Gen Idealize.ShloMosaic.TcCoe
open Idealize.ShloMosaic.Pipeline (Dat Cfg Window)
open Cert.Proof.Scaled

/-- The body's payload at an index. -/
theorem pay_apply (x0 : Vec Ideal S512x16384 .fp8e4m3) (x1 : Vec Ideal S16384x512 .fp8e4m3) (x3 : Vec Ideal S512x1 .f32)
    (x2 : Vec Ideal S1x512 .f32) (x4 : Vec Ideal S512x64 .fp8e4m3) (x5 : Vec Ideal S64x512 .fp8e4m3) (x7 : Vec Ideal S512x1 .f32)
    (x6 : Vec Ideal S1x512 .f32) (r c : Fin 512) :
    k0_pay1 x0 x1 x3 x2 x4 x5 x7 x6 (ix2 r c) = scaled x0 x1 x3 x2 r c + scaled x4 x5 x7 x6 r c := by
  unfold k0_pay1
  rw [truncf_apply, addf_apply]
  exact congrArg₂ (· + ·) (scaled_apply x0 x1 x3 x2 _ _ _ r c) (scaled_apply x4 x5 x7 x6 _ _ _ r c)

/-- The covering store leaves its payload, and the loads read whole buffers. -/
theorem out_eq (x0 : Vec Ideal S512x16384 .fp8e4m3) (x1 : Vec Ideal S16384x512 .fp8e4m3) (x2 : Vec Ideal S1x512 .f32)
    (x3 : Vec Ideal S512x1 .f32) (x4 : Vec Ideal S512x64 .fp8e4m3) (x5 : Vec Ideal S64x512 .fp8e4m3) (x6 : Vec Ideal S1x512 .f32)
    (x7 : Vec Ideal S512x1 .f32) : out0_8 x0 x1 x2 x3 x4 x5 x6 x7 = k0_pay1 x0 x1 x3 x2 x4 x5 x7 x6 := by
  have hz : (![0, 0] : Fin 2 → Nat) = fun _ => 0 := funext fun a => by fin_cases a <;> rfl
  unfold out0_8
  rw [View.canon_unit_zero hz, View.ld_unit_zero hz, View.ld_unit_zero hz, View.ld_unit_zero hz, View.ld_unit_zero hz,
    View.ld_unit_zero hz, View.ld_unit_zero hz, View.ld_unit_zero hz, View.ld_unit_zero hz]

/-! ## Where a block's elements lie -/

/-- The index maps, decided over the 180 points: the row windows move with the first grid coordinate, the column windows with
    the second, as the result's block does. -/
theorem idx_facts : ∀ t : Fin cfg0.N,
    win0_0.index t 0 = win0_8.index t 0 ∧ win0_0.index t 1 = 0
    ∧ win0_1.index t 0 = 0 ∧ win0_1.index t 1 = win0_8.index t 1
    ∧ win0_2.index t 0 = 0 ∧ win0_2.index t 1 = win0_8.index t 1
    ∧ win0_3.index t 0 = win0_8.index t 0 ∧ win0_3.index t 1 = 0
    ∧ win0_4.index t 0 = win0_8.index t 0 ∧ win0_4.index t 1 = 0
    ∧ win0_5.index t 0 = 0 ∧ win0_5.index t 1 = win0_8.index t 1
    ∧ win0_6.index t 0 = 0 ∧ win0_6.index t 1 = win0_8.index t 1
    ∧ win0_7.index t 0 = win0_8.index t 0 ∧ win0_7.index t 1 = 0
    ∧ win0_8.index t 0 < 5 ∧ win0_8.index t 1 < 36 ∧ win0_8.flush t = true :=
  (by decide +kernel : ∀ t : Fin grid0.N, _)

/-- Every block index is some point's. -/
theorem idx_surj : ∀ a : Fin 5, ∀ b : Fin 36, ∃ t : Fin cfg0.N, win0_8.index t 0 = a.val ∧ win0_8.index t 1 = b.val :=
  (by decide +kernel : ∀ a : Fin 5, ∀ b : Fin 36, ∃ t : Fin grid0.N, _)

/-- The array row of row `r` of point `t`'s block. -/
def row (t : Fin cfg0.N) (r : Fin 512) : Fin 2560 :=
  ⟨win0_8.index t 0 * 512 + r.val, by have := (idx_facts t).2.2.2.2.2.2.2.2.2.2.2.2.2.2.2.2.1; omega⟩
/-- The array column of column `c` of point `t`'s block. -/
def col (t : Fin cfg0.N) (c : Fin 512) : Fin 18432 :=
  ⟨win0_8.index t 1 * 512 + c.val, by have := (idx_facts t).2.2.2.2.2.2.2.2.2.2.2.2.2.2.2.2.2.1; omega⟩

variable (m : (ℓ : Loc nD τ sig) → Buf (Elt Ideal) ℓ) (ρ : Dev nD → PrngReg)

/-- An element of a block that moves down the rows (windows 0, 3, 4, 7) or along the columns (windows 1, 2, 5, 6), by where
    it lies in its array. -/
theorem iblk0 (c : Dev nD) (t : Fin cfg0.N) (r : Fin 512) (k : Fin 16384) :
    iblk m c 0 t (ix2 r k) = V m c main_arg0 (ix2 (row t r) k) := by
  obtain ⟨a0, a1, -⟩ := idx_facts t
  show V m c main_arg0 ((win0_0.rect t).emb (ix2 r k)) = _
  refine congrArg (V m c main_arg0) (Shape.idx_ext₂ ((win0_0.rect_emb_val t _ _).trans ?_) ((win0_0.rect_emb_val t _ _).trans ?_))
  · show win0_0.index t 0 * 512 + r.val = win0_8.index t 0 * 512 + r.val
    rw [a0]
  · show win0_0.index t 1 * 16384 + k.val = k.val
    rw [a1]; omega
theorem iblk1 (c : Dev nD) (t : Fin cfg0.N) (k : Fin 16384) (j : Fin 512) :
    iblk m c 1 t (ix2 k j) = V m c main_arg1 (ix2 k (col t j)) := by
  obtain ⟨-, -, a0, a1, -⟩ := idx_facts t
  show V m c main_arg1 ((win0_1.rect t).emb (ix2 k j)) = _
  refine congrArg (V m c main_arg1) (Shape.idx_ext₂ ((win0_1.rect_emb_val t _ _).trans ?_) ((win0_1.rect_emb_val t _ _).trans ?_))
  · show win0_1.index t 0 * 16384 + k.val = k.val
    rw [a0]; omega
  · show win0_1.index t 1 * 512 + j.val = win0_8.index t 1 * 512 + j.val
    rw [a1]
theorem iblk2 (c : Dev nD) (t : Fin cfg0.N) (j : Fin 512) :
    iblk m c 2 t (ix2 0 j) = V m c main_v0 (ix2 0 (col t j)) := by
  obtain ⟨-, -, -, -, a0, a1, -⟩ := idx_facts t
  show V m c main_v0 ((win0_2.rect t).emb (ix2 0 j)) = _
  refine congrArg (V m c main_v0) (Shape.idx_ext₂ ((win0_2.rect_emb_val t _ _).trans ?_) ((win0_2.rect_emb_val t _ _).trans ?_))
  · show win0_2.index t 0 * 1 + 0 = 0
    rw [a0]
  · show win0_2.index t 1 * 512 + j.val = win0_8.index t 1 * 512 + j.val
    rw [a1]
theorem iblk3 (c : Dev nD) (t : Fin cfg0.N) (r : Fin 512) :
    iblk m c 3 t (ix2 r 0) = V m c main_arg3 (ix2 (row t r) 0) := by
  obtain ⟨-, -, -, -, -, -, a0, a1, -⟩ := idx_facts t
  show V m c main_arg3 ((win0_3.rect t).emb (ix2 r 0)) = _
  refine congrArg (V m c main_arg3) (Shape.idx_ext₂ ((win0_3.rect_emb_val t _ _).trans ?_) ((win0_3.rect_emb_val t _ _).trans ?_))
  · show win0_3.index t 0 * 512 + r.val = win0_8.index t 0 * 512 + r.val
    rw [a0]
  · show win0_3.index t 1 * 1 + 0 = 0
    rw [a1]
theorem iblk4 (c : Dev nD) (t : Fin cfg0.N) (r : Fin 512) (k : Fin 64) :
    iblk m c 4 t (ix2 r k) = V m c main_arg4 (ix2 (row t r) k) := by
  obtain ⟨-, -, -, -, -, -, -, -, a0, a1, -⟩ := idx_facts t
  show V m c main_arg4 ((win0_4.rect t).emb (ix2 r k)) = _
  refine congrArg (V m c main_arg4) (Shape.idx_ext₂ ((win0_4.rect_emb_val t _ _).trans ?_) ((win0_4.rect_emb_val t _ _).trans ?_))
  · show win0_4.index t 0 * 512 + r.val = win0_8.index t 0 * 512 + r.val
    rw [a0]
  · show win0_4.index t 1 * 64 + k.val = k.val
    rw [a1]; omega
theorem iblk5 (c : Dev nD) (t : Fin cfg0.N) (k : Fin 64) (j : Fin 512) :
    iblk m c 5 t (ix2 k j) = V m c main_arg5 (ix2 k (col t j)) := by
  obtain ⟨-, -, -, -, -, -, -, -, -, -, a0, a1, -⟩ := idx_facts t
  show V m c main_arg5 ((win0_5.rect t).emb (ix2 k j)) = _
  refine congrArg (V m c main_arg5) (Shape.idx_ext₂ ((win0_5.rect_emb_val t _ _).trans ?_) ((win0_5.rect_emb_val t _ _).trans ?_))
  · show win0_5.index t 0 * 64 + k.val = k.val
    rw [a0]; omega
  · show win0_5.index t 1 * 512 + j.val = win0_8.index t 1 * 512 + j.val
    rw [a1]
theorem iblk6 (c : Dev nD) (t : Fin cfg0.N) (j : Fin 512) :
    iblk m c 6 t (ix2 0 j) = V m c main_v1 (ix2 0 (col t j)) := by
  obtain ⟨-, -, -, -, -, -, -, -, -, -, -, -, a0, a1, -⟩ := idx_facts t
  show V m c main_v1 ((win0_6.rect t).emb (ix2 0 j)) = _
  refine congrArg (V m c main_v1) (Shape.idx_ext₂ ((win0_6.rect_emb_val t _ _).trans ?_) ((win0_6.rect_emb_val t _ _).trans ?_))
  · show win0_6.index t 0 * 1 + 0 = 0
    rw [a0]
  · show win0_6.index t 1 * 512 + j.val = win0_8.index t 1 * 512 + j.val
    rw [a1]
theorem iblk7 (c : Dev nD) (t : Fin cfg0.N) (r : Fin 512) :
    iblk m c 7 t (ix2 r 0) = V m c main_arg7 (ix2 (row t r) 0) := by
  obtain ⟨-, -, -, -, -, -, -, -, -, -, -, -, -, -, a0, a1, -⟩ := idx_facts t
  show V m c main_arg7 ((win0_7.rect t).emb (ix2 r 0)) = _
  refine congrArg (V m c main_arg7) (Shape.idx_ext₂ ((win0_7.rect_emb_val t _ _).trans ?_) ((win0_7.rect_emb_val t _ _).trans ?_))
  · show win0_7.index t 0 * 512 + r.val = win0_8.index t 0 * 512 + r.val
    rw [a0]
  · show win0_7.index t 1 * 1 + 0 = 0
    rw [a1]

/-! ## The result array -/

/-- What the result array is shown to hold. -/
def G (c : Dev nD) : S2560x18432.Idx → EReal :=
  sumScaled (V m c main_arg0) (V m c main_arg1) (V m c main_arg3) (V m c main_v0)
    (V m c main_arg4) (V m c main_arg5) (V m c main_arg7) (V m c main_v1)

/-- What point `t` writes back is block `t` of `G`. -/
theorem flushed_eq (c : Dev nD) (t : Fin cfg0.N) :
    (dats m 0 c).flushed 8 t = ((cfg0.win 8).blk t).view.read (Elt Ideal) (G m c) := by
  rw [Cert.MainIdeal.Value.flushed8, out_eq]
  funext j
  obtain ⟨r, k, rfl⟩ : ∃ r k, j = ix2 r k := ⟨j 0, j 1, eq_ix2 j⟩
  have e : (win0_8.rect t).emb (ix2 r k) = ix2 (row t r) (col t k) :=
    Shape.idx_ext₂ (win0_8.rect_emb_val t _ _) (win0_8.rect_emb_val t _ _)
  show k0_pay1 (iblk m c 0 t) (iblk m c 1 t) (iblk m c 3 t) (iblk m c 2 t) (iblk m c 4 t) (iblk m c 5 t) (iblk m c 7 t)
    (iblk m c 6 t) (ix2 r k) = G m c ((win0_8.rect t).emb (ix2 r k))
  rw [e, pay_apply]
  show scaled _ _ _ _ _ _ + scaled _ _ _ _ _ _ = scaled _ _ _ _ (row t r) (col t k) + scaled _ _ _ _ (row t r) (col t k)
  unfold scaled
  simp only [iblk0, iblk1, iblk2, iblk3, iblk4, iblk5, iblk6, iblk7]

/-- An index is in point `t`'s block iff its coordinates are in the block's ranges. -/
theorem mem_blk (t : Fin cfg0.N) (i : S2560x18432.Idx) :
    i ∈ ((cfg0.win 8).blk t).view.set ↔
      ∀ a, win0_8.index t a * win0_8.size a ≤ (i a : Nat) ∧ (i a : Nat) < win0_8.index t a * win0_8.size a + win0_8.xsize (grid0.coords t) a := by
  show i ∈ ((View.whole main_v2).slice (win0_8.rect t)).set ↔ _
  rw [View.set_slice_whole, Rect.mem_set_unit]

/-- The blocks cover the array. -/
theorem cover (i : S2560x18432.Idx) : ∃ t : Fin cfg0.N, (cfg0.win 8).flush t = true ∧ i ∈ ((cfg0.win 8).blk t).view.set := by
  have h0 : (i 0).val < 2560 := (i 0).isLt
  have h1 : (i 1).val < 18432 := (i 1).isLt
  obtain ⟨t, e0, e1⟩ := idx_surj ⟨(i 0).val / 512, by omega⟩ ⟨(i 1).val / 512, by omega⟩
  refine ⟨t, (idx_facts t).2.2.2.2.2.2.2.2.2.2.2.2.2.2.2.2.2.2, ?_⟩
  rw [mem_blk]
  intro a
  match a with
  | ⟨0, _⟩ =>
    show win0_8.index t 0 * 512 ≤ (i 0).val ∧ (i 0).val < win0_8.index t 0 * 512 + 512
    rw [e0]; dsimp only; omega
  | ⟨1, _⟩ =>
    show win0_8.index t 1 * 512 ≤ (i 1).val ∧ (i 1).val < win0_8.index t 1 * 512 + 512
    rw [e1]; dsimp only; omega

/-- So the result array ends at `G`. -/
theorem final (c : Dev nD) : (dats m 0 c).arrAt 8 cfg0.N = G m c :=
  (dats m 0 c).arrAt_eq_of_cover 8 (G m c) (fun t _ => flushed_eq m c t) cover

end Cert.Proof.MainValue

end
-- ==== Proof.MainRefValue.lean ====
/-
  Hand-written, untrusted. THE PLAIN MATRIX PRODUCT'S VALUE at the ideal instance: the reference's one block is the whole
  array, and after its run element `(r, c)` is the scaled product plus the scaled low-rank product (`Scaled.scaled`).
-/
module

public import proofs.«01_k».proof.Defs
public import proofs.«01_k».proof.Proof.Gen.MainRefIdeal.Value
public import proofs.«01_k».proof.Proof.Scaled

@[expose] public section

noncomputable section

namespace Cert.Proof.MainRefValue

open Idealize.ShloMosaic Idealize.SL.Sem Idealize.ShloMosaic.ValueIdx Cert.MainRefIdeal
open Cert.MainRefIdeal.Gen Idealize.ShloMosaic.TcCoe
open Idealize.ShloMosaic.Pipeline (Dat Cfg Window)
open Cert.Proof.Scaled

/-- The body's payload at an index. -/
theorem pay_apply (x0 : Vec Ideal S2560x16384 .fp8e4m3) (x1 : Vec Ideal S16384x18432 .fp8e4m3) (x3 : Vec Ideal S2560x1 .f32)
    (x2 : Vec Ideal S1x18432 .f32) (x4 : Vec Ideal S2560x64 .fp8e4m3) (x5 : Vec Ideal S64x18432 .fp8e4m3) (x7 : Vec Ideal S2560x1 .f32)
    (x6 : Vec Ideal S1x18432 .f32) (r : Fin 2560) (c : Fin 18432) :
    k0_pay1 x0 x1 x3 x2 x4 x5 x7 x6 (ix2 r c) = scaled x0 x1 x3 x2 r c + scaled x4 x5 x7 x6 r c := by
  unfold k0_pay1
  rw [truncf_apply, addf_apply]
  exact congrArg₂ (· + ·) (scaled_apply x0 x1 x3 x2 _ _ _ r c) (scaled_apply x4 x5 x7 x6 _ _ _ r c)

/-- The covering store leaves its payload, and the loads read whole buffers. -/
theorem out_eq (x0 : Vec Ideal S2560x16384 .fp8e4m3) (x1 : Vec Ideal S16384x18432 .fp8e4m3) (x2 : Vec Ideal S1x18432 .f32)
    (x3 : Vec Ideal S2560x1 .f32) (x4 : Vec Ideal S2560x64 .fp8e4m3) (x5 : Vec Ideal S64x18432 .fp8e4m3) (x6 : Vec Ideal S1x18432 .f32)
    (x7 : Vec Ideal S2560x1 .f32) : out0_8 x0 x1 x2 x3 x4 x5 x6 x7 = k0_pay1 x0 x1 x3 x2 x4 x5 x7 x6 := by
  have hz : (![0, 0] : Fin 2 → Nat) = fun _ => 0 := funext fun a => by fin_cases a <;> rfl
  unfold out0_8
  rw [View.canon_unit_zero hz, View.ld_unit_zero hz, View.ld_unit_zero hz, View.ld_unit_zero hz, View.ld_unit_zero hz,
    View.ld_unit_zero hz, View.ld_unit_zero hz, View.ld_unit_zero hz, View.ld_unit_zero hz]

/-- Every window's one block is its whole array. -/
theorem idx_zero : ∀ t : Fin cfg0.N, ∀ a : Fin 2,
    win0_0.index t a = 0 ∧ win0_1.index t a = 0 ∧ win0_2.index t a = 0 ∧ win0_3.index t a = 0 ∧ win0_4.index t a = 0
    ∧ win0_5.index t a = 0 ∧ win0_6.index t a = 0 ∧ win0_7.index t a = 0 ∧ win0_8.index t a = 0 :=
  (by decide +kernel : ∀ t : Fin grid0.N, ∀ a : Fin 2, _)

variable (m : (ℓ : Loc nD τ sig) → Buf (Elt Ideal) ℓ) (ρ : Dev nD → PrngReg)

/-- What the result array is shown to hold. -/
def G (c : Dev nD) : S2560x18432.Idx → EReal :=
  sumScaled (V m c main_arg0) (V m c main_arg1) (V m c main_arg3) (V m c main_v0)
    (V m c main_arg4) (V m c main_arg5) (V m c main_arg7) (V m c main_v1)

/-- Each input block is its array. -/
theorem iblk0 (c : Dev nD) (t : Fin cfg0.N) : iblk m c 0 t = V m c main_arg0 := by
  funext j; show V m c main_arg0 ((win0_0.rect t).emb j) = _
  exact congrArg _ (Shape.idx_ext₂ (win0_0.rect_emb_val_of_index_zero t 0 (idx_zero t 0).1 j) (win0_0.rect_emb_val_of_index_zero t 1 (idx_zero t 1).1 j))
theorem iblk1 (c : Dev nD) (t : Fin cfg0.N) : iblk m c 1 t = V m c main_arg1 := by
  funext j; show V m c main_arg1 ((win0_1.rect t).emb j) = _
  exact congrArg _ (Shape.idx_ext₂ (win0_1.rect_emb_val_of_index_zero t 0 (idx_zero t 0).2.1 j) (win0_1.rect_emb_val_of_index_zero t 1 (idx_zero t 1).2.1 j))
theorem iblk2 (c : Dev nD) (t : Fin cfg0.N) : iblk m c 2 t = V m c main_v0 := by
  funext j; show V m c main_v0 ((win0_2.rect t).emb j) = _
  exact congrArg _ (Shape.idx_ext₂ (win0_2.rect_emb_val_of_index_zero t 0 (idx_zero t 0).2.2.1 j) (win0_2.rect_emb_val_of_index_zero t 1 (idx_zero t 1).2.2.1 j))
theorem iblk3 (c : Dev nD) (t : Fin cfg0.N) : iblk m c 3 t = V m c main_arg3 := by
  funext j; show V m c main_arg3 ((win0_3.rect t).emb j) = _
  exact congrArg _ (Shape.idx_ext₂ (win0_3.rect_emb_val_of_index_zero t 0 (idx_zero t 0).2.2.2.1 j) (win0_3.rect_emb_val_of_index_zero t 1 (idx_zero t 1).2.2.2.1 j))
theorem iblk4 (c : Dev nD) (t : Fin cfg0.N) : iblk m c 4 t = V m c main_arg4 := by
  funext j; show V m c main_arg4 ((win0_4.rect t).emb j) = _
  exact congrArg _ (Shape.idx_ext₂ (win0_4.rect_emb_val_of_index_zero t 0 (idx_zero t 0).2.2.2.2.1 j) (win0_4.rect_emb_val_of_index_zero t 1 (idx_zero t 1).2.2.2.2.1 j))
theorem iblk5 (c : Dev nD) (t : Fin cfg0.N) : iblk m c 5 t = V m c main_arg5 := by
  funext j; show V m c main_arg5 ((win0_5.rect t).emb j) = _
  exact congrArg _ (Shape.idx_ext₂ (win0_5.rect_emb_val_of_index_zero t 0 (idx_zero t 0).2.2.2.2.2.1 j) (win0_5.rect_emb_val_of_index_zero t 1 (idx_zero t 1).2.2.2.2.2.1 j))
theorem iblk6 (c : Dev nD) (t : Fin cfg0.N) : iblk m c 6 t = V m c main_v1 := by
  funext j; show V m c main_v1 ((win0_6.rect t).emb j) = _
  exact congrArg _ (Shape.idx_ext₂ (win0_6.rect_emb_val_of_index_zero t 0 (idx_zero t 0).2.2.2.2.2.2.1 j) (win0_6.rect_emb_val_of_index_zero t 1 (idx_zero t 1).2.2.2.2.2.2.1 j))
theorem iblk7 (c : Dev nD) (t : Fin cfg0.N) : iblk m c 7 t = V m c main_arg7 := by
  funext j; show V m c main_arg7 ((win0_7.rect t).emb j) = _
  exact congrArg _ (Shape.idx_ext₂ (win0_7.rect_emb_val_of_index_zero t 0 (idx_zero t 0).2.2.2.2.2.2.2.1 j) (win0_7.rect_emb_val_of_index_zero t 1 (idx_zero t 1).2.2.2.2.2.2.2.1 j))

/-- What the one point writes back is `G`. -/
theorem flushed_eq (c : Dev nD) (t : Fin cfg0.N) :
    (dats m 0 c).flushed 8 t = ((cfg0.win 8).blk t).view.read (Elt Ideal) (G m c) := by
  rw [Cert.MainRefIdeal.Value.flushed8, out_eq, iblk0, iblk1, iblk2, iblk3, iblk4, iblk5, iblk6, iblk7]
  funext j
  have e : (win0_8.rect t).emb j = j := Shape.idx_ext₂ (win0_8.rect_emb_val_of_index_zero t 0 (idx_zero t 0).2.2.2.2.2.2.2.2 j)
    (win0_8.rect_emb_val_of_index_zero t 1 (idx_zero t 1).2.2.2.2.2.2.2.2 j)
  show k0_pay1 (F := Ideal) _ _ _ _ _ _ _ _ j = G m c ((win0_8.rect t).emb j)
  rw [e]
  obtain ⟨r, k, rfl⟩ : ∃ r k, j = ix2 r k := ⟨j 0, j 1, eq_ix2 j⟩
  exact pay_apply _ _ _ _ _ _ _ _ r k

/-- The one block covers the array. -/
theorem cover (i : S2560x18432.Idx) : ∃ t : Fin cfg0.N, (cfg0.win 8).flush t = true ∧ i ∈ ((cfg0.win 8).blk t).view.set := by
  have hN : 0 < cfg0.N := by decide +kernel
  refine ⟨⟨0, hN⟩, (by decide +kernel : ∀ t : Fin grid0.N, win0_8.flush t = true) _, ?_⟩
  have e : (win0_8.rect ⟨0, hN⟩).emb i = i := Shape.idx_ext₂ (win0_8.rect_emb_val_of_index_zero _ 0 (idx_zero _ 0).2.2.2.2.2.2.2.2 i)
    (win0_8.rect_emb_val_of_index_zero _ 1 (idx_zero _ 1).2.2.2.2.2.2.2.2 i)
  have h := ((cfg0.win 8).blk ⟨0, hN⟩).view.emb_mem_set i
  have e' : ((cfg0.win 8).blk ⟨0, hN⟩).view.emb i = i := e
  rwa [e'] at h

/-- So the result array ends at `G`. -/
theorem final (c : Dev nD) : (dats m 0 c).arrAt 8 cfg0.N = G m c :=
  (dats m 0 c).arrAt_eq_of_cover 8 (G m c) (fun t _ => flushed_eq m c t) cover

end Cert.Proof.MainRefValue

end
-- ==== Proof.MainClaim.lean ====
/-
  Hand-written, untrusted. THE MATRIX PRODUCT'S VALUE CLAIM: from memories agreeing on the arguments, the blocked kernel and
  the plain reference end with the same result, index by index.
-/
module

public import proofs.«01_k».proof.Proof.MainValue
public import proofs.«01_k».proof.Proof.MainRefValue

@[expose] public section

noncomputable section

namespace Cert.Proof.MainClaim

open Idealize.ShloMosaic Idealize.SL.Sem Idealize.ShloMosaic.TcCoe

/-- The kernel's host lines reshape the two vectors of column scales to rows. -/
theorem V_v0 (m : (ℓ : Loc Cert.MainIdeal.nD Cert.MainIdeal.τ Cert.MainIdeal.sig) → Buf (Elt Ideal) ℓ) (c : Dev Cert.MainIdeal.nD) :
    Cert.MainIdeal.Gen.V m c Cert.MainIdeal.main_v0
      = shapeCast Cert.MainIdeal.S1x18432 (m ((c : Thread Cert.MainIdeal.nD Cert.MainIdeal.τ).loc Cert.MainIdeal.main_arg2)) Cert.MainIdeal.Facts₀.shapeCasts_S18432_S1x18432 := by
  show StableHlo.after Cert.MainIdeal.Gen.hostOps0 _ (Proc.devRef .tc Cert.MainIdeal.main_v0) = _
  after_results
  rfl
theorem V_v1 (m : (ℓ : Loc Cert.MainIdeal.nD Cert.MainIdeal.τ Cert.MainIdeal.sig) → Buf (Elt Ideal) ℓ) (c : Dev Cert.MainIdeal.nD) :
    Cert.MainIdeal.Gen.V m c Cert.MainIdeal.main_v1
      = shapeCast Cert.MainIdeal.S1x18432 (m ((c : Thread Cert.MainIdeal.nD Cert.MainIdeal.τ).loc Cert.MainIdeal.main_arg6)) Cert.MainIdeal.Facts₀.shapeCasts_S18432_S1x18432 := by
  show StableHlo.after Cert.MainIdeal.Gen.hostOps0 _ (Proc.devRef .tc Cert.MainIdeal.main_v1) = _
  after_results
  rfl
/-- So do the reference's. -/
theorem V_v0' (m : (ℓ : Loc Cert.MainRefIdeal.nD Cert.MainRefIdeal.τ Cert.MainRefIdeal.sig) → Buf (Elt Ideal) ℓ) (c : Dev Cert.MainRefIdeal.nD) :
    Cert.MainRefIdeal.Gen.V m c Cert.MainRefIdeal.main_v0
      = shapeCast Cert.MainRefIdeal.S1x18432 (m ((c : Thread Cert.MainRefIdeal.nD Cert.MainRefIdeal.τ).loc Cert.MainRefIdeal.main_arg2)) Cert.MainRefIdeal.Facts₀.shapeCasts_S18432_S1x18432 := by
  show StableHlo.after Cert.MainRefIdeal.Gen.hostOps0 _ (Proc.devRef .tc Cert.MainRefIdeal.main_v0) = _
  after_results
  rfl
theorem V_v1' (m : (ℓ : Loc Cert.MainRefIdeal.nD Cert.MainRefIdeal.τ Cert.MainRefIdeal.sig) → Buf (Elt Ideal) ℓ) (c : Dev Cert.MainRefIdeal.nD) :
    Cert.MainRefIdeal.Gen.V m c Cert.MainRefIdeal.main_v1
      = shapeCast Cert.MainRefIdeal.S1x18432 (m ((c : Thread Cert.MainRefIdeal.nD Cert.MainRefIdeal.τ).loc Cert.MainRefIdeal.main_arg6)) Cert.MainRefIdeal.Facts₀.shapeCasts_S18432_S1x18432 := by
  show StableHlo.after Cert.MainRefIdeal.Gen.hostOps0 _ (Proc.devRef .tc Cert.MainRefIdeal.main_v1) = _
  after_results
  rfl

/-- `Cert.algebraic_MainIdeal_MainRefIdeal`: both result arrays end at the same function of the arguments. -/
theorem algebraic : Cert.algebraic_MainIdeal_MainRefIdeal := by
  intro m ρ m' ρ' _ hagree
  refine ⟨fun c => Cert.Proof.MainValue.G m c, ?_, ?_⟩
  · exact (θ_run Cert.MainIdeal.defs _ _).mono (fun _ h c => ⟨(h c).1.trans (Cert.Proof.MainValue.final m c), (h c).2⟩)
      (Cert.MainIdeal.Value.run_blocks m ρ)
  refine (θ_run Cert.MainRefIdeal.defs _ _).mono
    (fun _ h c => ⟨((h c).1.trans (Cert.Proof.MainRefValue.final m' c)).trans ?_, (h c).2⟩)
    (Cert.MainRefIdeal.Value.run_blocks m' ρ')
  obtain ⟨e0, e1, e2, e3, e4, e5, e6, e7⟩ := hagree c
  exact Cert.Proof.Scaled.sumScaled_congr
    ((Cert.MainRefIdeal.Gen.V_main_arg0 m' c).trans (e0.trans (Cert.MainIdeal.Gen.V_main_arg0 m c).symm))
    ((Cert.MainRefIdeal.Gen.V_main_arg1 m' c).trans (e1.trans (Cert.MainIdeal.Gen.V_main_arg1 m c).symm))
    ((Cert.MainRefIdeal.Gen.V_main_arg3 m' c).trans (e3.trans (Cert.MainIdeal.Gen.V_main_arg3 m c).symm))
    ((V_v0' m' c).trans ((congrArg (fun x => shapeCast Cert.MainIdeal.S1x18432 x Cert.MainIdeal.Facts₀.shapeCasts_S18432_S1x18432) e2).trans (V_v0 m c).symm))
    ((Cert.MainRefIdeal.Gen.V_main_arg4 m' c).trans (e4.trans (Cert.MainIdeal.Gen.V_main_arg4 m c).symm))
    ((Cert.MainRefIdeal.Gen.V_main_arg5 m' c).trans (e5.trans (Cert.MainIdeal.Gen.V_main_arg5 m c).symm))
    ((Cert.MainRefIdeal.Gen.V_main_arg7 m' c).trans (e7.trans (Cert.MainIdeal.Gen.V_main_arg7 m c).symm))
    ((V_v1' m' c).trans ((congrArg (fun x => shapeCast Cert.MainIdeal.S1x18432 x Cert.MainIdeal.Facts₀.shapeCasts_S18432_S1x18432) e6).trans (V_v1 m c).symm))

end Cert.Proof.MainClaim

end
-- ==== Proof.Exponent.lean ====
/-
  Hand-written, untrusted. The exponent of an fp8 quantiser's scale, at the ideal instance: the number of thresholds a
  value reaches, less a constant, is the floor of its base-2 logarithm plus one, kept among -126 .. 126, and the float
  whose exponent field holds it is that power of two.
-/
module

public import Idealize.ShloMosaic.Lib.IndicatorCount
public import Idealize.ShloMosaic.Lib.IdealHost
public import Idealize.ShloMosaic.Lib.ValueIdx
public import Idealize.ShloMosaic.Lib.Pipeline.Value

@[expose] public section

noncomputable section

namespace Cert.Proof.Exponent

open Idealize.ShloMosaic
open scoped BigOperators

/-! ## Floats read from their bits -/

/-- A normal f32 read from its three fields. -/
theorem f32_normal (b : BitVec 32) (ex fr : ℕ) (neg : Bool) (hn : (b.extractLsb' 31 1 == 1#1) = neg) (he : (b.extractLsb' 23 8).toNat = ex)
    (hf : (b.extractLsb' 0 23).toNat = fr) (h1 : ex ≠ 255) (h0 : ex ≠ 0) :
    Ideal.ofBits .f32 b = (((if neg then -1 else 1 : ℝ) * ((2 ^ 23 + fr : ℕ) : ℝ) * (2 : ℝ) ^ ((ex : ℤ) - 150) : ℝ) : EReal) := by
  subst hn he hf
  show Ideal.ieee 8 23 b = _
  unfold Ideal.ieee
  have e1 : ¬ ((b.extractLsb' 23 8).toNat = 2 ^ 8 - 1) := h1
  simp only [e1, h0, if_false, Nat.reduceAdd]
  congr 3
  norm_num
  ring

/-- The float whose bits are `k` shifted left by the 23 bits of the mantissa. -/
def start (k : BitVec 32) : EReal := Ideal.ofBits .f32 (IntOp.shli .vector k 23#32)

/-- The float whose exponent field is `e + 127`. -/
def pow2 (e : BitVec 32) : EReal := start (IntOp.addi e 127#32)

theorem start_zero : start 0#32 = 0 := by
  have h : IntOp.shli .vector 0#32 23#32 = 0x00000000#32 := by decide
  unfold start
  rw [h]
  exact Ideal.ofBits_zero_f32

/-- The three fields of the bits `k <<< 23`. -/
theorem start_fields : ∀ k : Fin 255,
    ((IntOp.shli .vector (BitVec.ofNat 32 k.val) 23#32).extractLsb' 31 1 == 1#1) = false ∧
      ((IntOp.shli .vector (BitVec.ofNat 32 k.val) 23#32).extractLsb' 23 8).toNat = k.val ∧
      ((IntOp.shli .vector (BitVec.ofNat 32 k.val) 23#32).extractLsb' 0 23).toNat = 0 := by decide +kernel

theorem start_pos (k : ℕ) (h1 : 1 ≤ k) (h2 : k < 255) : start (BitVec.ofNat 32 k) = (((2 : ℝ) ^ ((k : ℤ) - 127) : ℝ) : EReal) := by
  obtain ⟨e1, e2, e3⟩ := start_fields ⟨k, h2⟩
  have h := f32_normal (IntOp.shli .vector (BitVec.ofNat 32 k) 23#32) k 0 false e1 e2 e3 (by omega) (by omega)
  refine h.trans (congrArg (fun r : ℝ => (r : EReal)) ?_)
  rw [show ((k : ℤ) - 127) = 23 + ((k : ℤ) - 150) by ring, zpow_add₀ (by norm_num)]
  norm_num

/-- The factor 1/448 of the quantisers, as they write it. -/
def c448 : EReal := Ideal.ofBits .f32 0x3B124925#32

theorem c448_coe : ∃ r : ℝ, 0 < r ∧ c448 = (r : EReal) :=
  ⟨_, by norm_num, f32_normal 0x3B124925#32 118 1198373 false (by decide) (by decide) (by decide) (by decide) (by decide)⟩

theorem ofBits_126 : Ideal.ofBits .f32 0x42FC0000#32 = ((126 : ℝ) : EReal) := by
  rw [f32_normal 0x42FC0000#32 133 8126464 false (by decide) (by decide) (by decide) (by decide) (by decide)]
  norm_num

theorem ofBits_neg126 : Ideal.ofBits .f32 0xC2FC0000#32 = ((-126 : ℝ) : EReal) := by
  rw [f32_normal 0xC2FC0000#32 133 8126464 true (by decide) (by decide) (by decide) (by decide) (by decide)]
  norm_num

theorem ofBits_two : Ideal.ofBits .f32 0x40000000#32 = ((2 : ℝ) : EReal) := by
  rw [f32_normal 0x40000000#32 128 0 false (by decide) (by decide) (by decide) (by decide) (by decide)]
  norm_num

/-! ## The two exponents -/

/-- The exponent by thresholds: how many of 0, `2 ^ -126`, …, `2 ^ 125` the value `y` reaches, less 127; 0 at zero. -/
def countExp (y : EReal) : BitVec 32 :=
  Scalar.select (Ideal.cmp .oeq y 0) 0#32
    (IntOp.subi (IntOp.subi
      ((Finset.univ : Finset (Fin 253)).fold IntOp.addi 0#32 fun k => (Ideal.cmp .oge y (start (BitVec.ofNat 32 k.val))).setWidth 32) 1#32) 126#32)

/-- The exponent by the logarithm: `floor (log2 (a / 448)) + 1` kept among -126 .. 126; 0 at zero. -/
def logExp (a : EReal) : EReal :=
  Scalar.select (Ideal.cmp .oeq a 0) 0
    (min ((126 : ℝ) : EReal) (max ((-126 : ℝ) : EReal) (Ideal.liftRound Int.floor (Ideal.div (Ideal.log (a * c448)) (Ideal.log ((2 : ℝ) : EReal))) + 1)))

/-- Counting the thresholds below a bound. -/
theorem count_lt (y : EReal) (N : ℕ) (hN : N ≤ 253) (h : ∀ k : Fin 253, start (BitVec.ofNat 32 k.val) ≤ y ↔ k.val < N) :
    ((Finset.univ : Finset (Fin 253)).fold IntOp.addi 0#32 fun k => (Ideal.cmp .oge y (start (BitVec.ofNat 32 k.val))).setWidth 32)
      = BitVec.ofNat 32 N := by
  rw [IndicatorCount.fold_addi_setWidth_eq_card (fun k : Fin 253 => Ideal.cmp .oge y (start (BitVec.ofNat 32 k.val))) Finset.univ]
  congr 1
  have e : (Finset.univ.filter fun k : Fin 253 => Ideal.cmp .oge y (start (BitVec.ofNat 32 k.val)) = 1#1)
      = Finset.univ.filter fun k : Fin 253 => k.val < N := by
    refine Finset.filter_congr fun k _ => ?_
    rw [← h k]
    by_cases hc : start (BitVec.ofNat 32 k.val) ≤ y <;> simp [Ideal.cmp, hc]
  rw [e]
  have := Fin.card_filter_val_lt (n := 253) (m := N)
  rw [this]
  omega

/-- The words the count gives. -/
theorem words : ∀ N : Fin 254, 1 ≤ N.val →
    IntOp.addi (IntOp.subi (IntOp.subi (BitVec.ofNat 32 N.val) 1#32) 126#32) 127#32 = BitVec.ofNat 32 N.val ∧
    IntOp.addi (IntOp.subi 0#32 (IntOp.subi (IntOp.subi (BitVec.ofNat 32 N.val) 1#32) 126#32)) 127#32 = BitVec.ofNat 32 (254 - N.val) := by
  decide +kernel

theorem exp2_int (j : ℤ) : Ideal.exp2 (((j : ℝ) : ℝ) : EReal) = (((2 : ℝ) ^ j : ℝ) : EReal) := by
  rw [Ideal.exp2_coe]
  congr 1
  exact Real.rpow_intCast 2 j

/-- If the value reaches exactly `N` thresholds and the logarithm's exponent is `N - 127`, the scales agree. -/
theorem scales_of (N : ℕ) (h1 : 1 ≤ N) (h2 : N ≤ 253) (e : BitVec 32) (x : EReal)
    (he : e = IntOp.subi (IntOp.subi (BitVec.ofNat 32 N) 1#32) 126#32) (hx : x = ((((N : ℤ) - 127 : ℤ) : ℝ) : EReal)) :
    pow2 e = Ideal.exp2 x ∧ pow2 (IntOp.subi 0#32 e) = Ideal.exp2 (0 - x) := by
  obtain ⟨w1, w2⟩ := words ⟨N, by omega⟩ h1
  simp only at w1 w2
  subst he hx
  refine ⟨?_, ?_⟩
  · rw [exp2_int]; unfold pow2; rw [w1, start_pos N h1 (by omega)]
  · have : (0 : EReal) - ((((N : ℤ) - 127 : ℤ) : ℝ) : EReal) = (((127 - (N : ℤ) : ℤ) : ℝ) : EReal) := by
      rw [← EReal.coe_zero, ← EReal.coe_sub]; congr 1; push_cast; ring
    rw [this, exp2_int]; unfold pow2; rw [w2, start_pos (254 - N) (by omega) (by omega)]
    congr 2
    omega

/-- The two scales, and the two inverses, agree at every nonnegative row maximum. -/
theorem scales (a : EReal) (ha : 0 ≤ a) :
    pow2 (countExp (a * c448)) = Ideal.exp2 (logExp a) ∧
      pow2 (IntOp.subi 0#32 (countExp (a * c448))) = Ideal.exp2 (0 - logExp a) := by
  obtain ⟨c, hc, hcc⟩ := c448_coe
  unfold countExp logExp
  rw [hcc]
  rcases eq_or_ne a 0 with rfl | ha0
  · refine scales_of 127 (by norm_num) (by norm_num) _ _ ?_ ?_
    · rw [show Ideal.cmp .oeq ((0 : EReal) * (c : EReal)) 0 = 1#1 by simp [Ideal.cmp]]
      show (0#32) = _
      decide
    · rw [show Ideal.cmp .oeq (0 : EReal) 0 = 1#1 by simp [Ideal.cmp]]
      show (0 : EReal) = _
      norm_num
  have hy0 : a * (c : EReal) ≠ 0 := by
    refine mul_ne_zero ha0 ?_
    exact_mod_cast hc.ne'
  rw [show Ideal.cmp .oeq a 0 = 0#1 by simp [Ideal.cmp, ha0], show Ideal.cmp .oeq (a * (c : EReal)) 0 = 0#1 by simp [Ideal.cmp, hy0]]
  show pow2 (IntOp.subi _ _) = Ideal.exp2 (min _ _) ∧ pow2 (IntOp.subi 0#32 (IntOp.subi _ _)) = Ideal.exp2 (0 - min _ _)
  have hl2 : 0 < Real.log 2 := Real.log_pos (by norm_num)
  have hL2 : Ideal.log ((2 : ℝ) : EReal) = ((Real.log 2 : ℝ) : EReal) := by rw [Ideal.log_coe]; simp
  rw [hL2, Ideal.div_coe hl2.ne']
  induction a using EReal.rec with
  | bot => simp at ha
  | top =>
    have ht : (⊤ : EReal) * (c : EReal) = ⊤ := EReal.top_mul_coe_of_pos hc
    rw [ht]
    refine scales_of 253 (by norm_num) (by norm_num) _ _ ?_ ?_
    · rw [count_lt ⊤ 253 le_rfl fun k => by simp]
    · rw [Ideal.log_top, EReal.top_mul_coe_of_pos (by positivity), Ideal.liftRound_top]
      rw [show (⊤ : EReal) + 1 = ⊤ from EReal.top_add_coe 1]
      simp
  | coe r =>
    have hr : 0 < r := lt_of_le_of_ne (by exact_mod_cast ha) (by intro h; exact ha0 (by rw [← h]; rfl))
    rw [← EReal.coe_mul]
    have hy : 0 < r * c := mul_pos hr hc
    generalize r * c = y at hy
    rw [Ideal.log_coe, if_neg (not_le.2 hy), ← EReal.coe_mul, Ideal.liftRound_coe]
    generalize hF : ⌊Real.log y * (1 / Real.log 2)⌋ = f
    have hz : ∀ z : ℤ, (2 : ℝ) ^ z ≤ y ↔ z ≤ f := fun z => by
      rw [← hF, Int.le_floor, mul_one_div, le_div_iff₀ hl2, ← Real.log_zpow, Real.log_le_log_iff (by positivity) hy]
    have hN : ((min 253 (max 1 (f + 128))).toNat : ℤ) = min 253 (max 1 (f + 128)) := Int.toNat_of_nonneg (by omega)
    refine scales_of (min 253 (max 1 (f + 128))).toNat (by omega) (by omega) _ _ ?_ ?_
    · rw [count_lt (y : EReal) (min 253 (max 1 (f + 128))).toNat (by omega) fun k => ?_]
      rcases Nat.eq_zero_or_pos k.val with h0 | hk
      · rw [h0, show BitVec.ofNat 32 0 = 0#32 from rfl, start_zero]
        have : (0 : EReal) ≤ (y : EReal) := by exact_mod_cast hy.le
        simp only [this, true_iff]; omega
      · rw [start_pos k.val hk (by omega), EReal.coe_le_coe_iff, hz]
        have := k.isLt
        omega
    · rw [hN]
      have e1 : (((f : ℝ) : EReal) + 1) = (((f + 1 : ℤ) : ℝ) : EReal) := by
        push_cast; rfl
      have e2 : ((-126 : ℝ) : EReal) = (((-126 : ℤ) : ℝ) : EReal) := by push_cast; rfl
      have e3 : ((126 : ℝ) : EReal) = (((126 : ℤ) : ℝ) : EReal) := by push_cast; rfl
      have hmono : Monotone fun z : ℤ => ((z : ℝ) : EReal) := fun p q h => by
        show ((p : ℝ) : EReal) ≤ ((q : ℝ) : EReal)
        exact_mod_cast h
      rw [e1, e2, e3]
      have m1 := hmono.map_max (a := (-126 : ℤ)) (b := f + 1)
      have m2 := hmono.map_min (a := (126 : ℤ)) (b := max (-126) (f + 1))
      rw [← m1, ← m2]
      congr 2
      omega

end Cert.Proof.Exponent

end
-- ==== Proof.Rows.lean ====
/-
  Hand-written, untrusted. What one row of the quantising stage computes, at the ideal instance, as functions of the row:
  the fp8 codes and scale of a row, the int8 codes and scale of a row, and the row of the tenants' products.
-/
module

public import proofs.«01_k».proof.Proof.Exponent
public import Idealize.ShloMosaic.Lib.MatmulPlain

@[expose] public section

noncomputable section

namespace Cert.Proof.Rows

open Idealize.ShloMosaic Idealize.ShloMosaic.ValueIdx Cert.Proof.Exponent
open scoped BigOperators

/-- The largest magnitude of a row. -/
def amax {K : ℕ} (v : Fin K → EReal) : EReal := (Finset.univ : Finset (Fin K)).fold max ⊥ fun k => max (v k) (-(v k))

theorem abs_nonneg (x : EReal) : 0 ≤ max x (-x) := by
  rcases le_total 0 x with h | h
  · exact le_max_of_le_left h
  · exact le_max_of_le_right (by rw [EReal.le_neg]; simpa using h)

theorem amax_nonneg {K : ℕ} (hK : 0 < K) (v : Fin K → EReal) : 0 ≤ amax v := by
  unfold amax
  rw [Finset.le_fold_max]
  exact Or.inr ⟨⟨0, hK⟩, Finset.mem_univ _, abs_nonneg _⟩

/-- A row's fp8 scale, a power of two. -/
def scale8 {K : ℕ} (v : Fin K → EReal) : EReal := Ideal.exp2 (logExp (amax v))

/-- A row's fp8 codes: divided by the scale and clipped to ±448. -/
def code8 {K : ℕ} (v : Fin K → EReal) (k : Fin K) : EReal :=
  min (Ideal.ofBits .f32 0x43E00000#32) (max (Ideal.ofBits .f32 0xC3E00000#32) (v k * Ideal.exp2 (0 - logExp (amax v))))

/-- The projection of a quantised row. -/
def zrow {K N : ℕ} (x : Fin K → EReal) (v : Fin N → Fin K → EReal) (vs : Fin N → EReal) (c : Fin N) : EReal :=
  (∑ k : Fin K, code8 x k * v c k) * scale8 x * vs c

/-- A row's int8 scale, 1 for a zero row. -/
def scaleI {N : ℕ} (z : Fin N → EReal) : EReal :=
  Scalar.select (Ideal.cmp .ogt (amax z) 0) (Ideal.div (amax z) (Ideal.ofBits .f32 0x42FE0000#32)) 1

/-- A row's int8 codes, before the conversion to words. -/
def codeI {N : ℕ} (z : Fin N → EReal) (c : Fin N) : EReal :=
  min (Ideal.ofBits .f32 0x42FE0000#32) (max (Ideal.ofBits .f32 0xC2FE0000#32) (Ideal.liftRound Ideal.roundHalfEven (Ideal.div (z c) (scaleI z))))

/-- Whether row number `n` is among the rows `lo ≤ n < hi`, compared as signed words. -/
def inRows (n lo hi : BitVec 32) : BitVec 1 := IntOp.andi (IntOp.cmpi .sge n lo) (IntOp.cmpi .slt n hi)

/-- The row of the tenants' products: the products by the matrices of the tenants that own the row, times the row's scale. -/
def hrow {G N L : ℕ} (own : Fin G → BitVec 1) (z : Fin N → EReal) (w : Fin G → Fin N → Fin L → EReal) (c : Fin L) : EReal :=
  (∑ g : Fin G, ∑ r : Fin N, Scalar.select (own g) (codeI z r) 0 * w g r c) * scaleI z

end Cert.Proof.Rows

end
-- ==== Proof.RowOps.lean ====
/-
  Hand-written, untrusted. The operations on rows that the quantising programs write, read at an index, at the ideal
  instance and at any extents: the column of the rows' largest magnitudes, the exponent counted over a table of powers
  of two, the exponent taken by a logarithm, the int8 scale and code.
-/
module

public import proofs.«01_k».proof.Proof.Rows
public import proofs.«01_k».proof.Proof.Scaled
public import Idealize.ShloMosaic.Lib.IdealHost

@[expose] public section

noncomputable section

namespace Cert.Proof.RowOps

open Idealize.ShloMosaic Idealize.ShloMosaic.ValueIdx Cert.Proof.Exponent Cert.Proof.Rows Cert.Proof.Scaled
open scoped BigOperators

variable {M K : ℕ}

section Elementwise
variable {s : Shape}
theorem floor_apply (x : FVec Ideal s .f32) (i : s.Idx) : floor x i = Ideal.liftRound Int.floor (x i) := rfl
theorem roundeven_apply (x : FVec Ideal s .f32) (i : s.Idx) : roundeven x i = Ideal.liftRound Ideal.roundHalfEven (x i) := rfl
theorem log_apply (x : FVec Ideal s .f32) (i : s.Idx) : log x i = Ideal.log (x i) := rfl
theorem exp2_apply (x : FVec Ideal s .f32) (i : s.Idx) : exp2 x i = Ideal.exp2 (x i) := rfl
theorem bitcastToFloat_apply (x : IVec s 32) (i : s.Idx) : bitcastToFloat (F := Ideal) .f32 x i = Ideal.ofBits .f32 (x i) := rfl
theorem shli_apply (x y : IVec s 32) (i : s.Idx) : shli x y i = IntOp.shli .vector (x i) (y i) := rfl
theorem subi_apply (x y : IVec s 32) (i : s.Idx) : subi x y i = IntOp.subi (x i) (y i) := rfl
theorem addi_apply (x y : IVec s 32) (i : s.Idx) : addi x y i = IntOp.addi (x i) (y i) := rfl
theorem andi_apply (x y : IVec s 1) (i : s.Idx) : andi x y i = IntOp.andi (x i) (y i) := rfl
theorem cmpi_apply (p : CmpIPredicate) (x y : IVec s 32) (i : s.Idx) : cmpi p x y i = IntOp.cmpi p (x i) (y i) := rfl
theorem iota_apply (dims : List (Fin s.rank)) (h : s.Iotas .tc 32 dims) (i : s.Idx) :
    iota .tc s 32 dims h i = BitVec.ofNat 32 (dims.foldl (fun n a => n * s.size a + (i a).val) 0) := rfl
end Elementwise

theorem rowMajorPi_zero (d : Fin 0 → ℕ) (f : (i : Fin 0) → Fin (d i)) : (Shape.rowMajorPi d f).val = 0 := by
  have h := (Shape.rowMajorPi d f).isLt
  simp at h
  omega

theorem rowMajor_ix1 (r : Fin M) : ((⟨1, ![M]⟩ : Shape).rowMajor (ix1 r)).val = r.val := by
  show (Shape.rowMajorPi ![M] (ix1 r)).val = _
  simp [Shape.rowMajorPi_succ_val, rowMajorPi_zero]

theorem rowMajor_ix2 (r : Fin M) (k : Fin K) : ((⟨2, ![M, K]⟩ : Shape).rowMajor (ix2 r k)).val = r.val * K + k.val := by
  show (Shape.rowMajorPi ![M, K] (ix2 r k)).val = _
  simp [Shape.rowMajorPi_succ_val, rowMajorPi_zero]

theorem rowMajor_ix3 {L : ℕ} (r : Fin M) (k : Fin K) (l : Fin L) :
    ((⟨3, ![M, K, L]⟩ : Shape).rowMajor (ix3 r k l)).val = (r.val * K + k.val) * L + l.val := by
  show (Shape.rowMajorPi ![M, K, L] (ix3 r k l)).val = _
  simp [Shape.rowMajorPi_succ_val, Fin.prod_univ_succ, rowMajorPi_zero]
  ring

/-- A vector reshaped to a column. -/
theorem col_apply {α : Type} (v : (⟨1, ![M]⟩ : Shape).Idx → α) (h : (⟨1, ![M]⟩ : Shape).ShapeCasts ⟨2, ![M, 1]⟩) (r : Fin M) :
    shapeCast ⟨2, ![M, 1]⟩ v h (ix2 r 0) = v (ix1 r) :=
  shapeCast_apply v h _ _ (by rw [rowMajor_ix1, rowMajor_ix2]; simp)

theorem lift_row (h : (⟨2, ![M, K]⟩ : Shape).Reduces [1] ⟨1, ![M]⟩) (r : Fin M) (k : Fin K) : h.lift (ix1 r) k = ix2 r k := by
  funext c; apply Fin.ext
  fin_cases c <;> rfl

/-- The column of the rows' largest magnitudes. -/
theorem amax_col {φ : FTy} (v : FVec Ideal ⟨2, ![M, K]⟩ φ) (acc : BitVec φ.bits) (hb : FloatOps.ofBits (F := Ideal) φ acc = (⊥ : EReal))
    (h : (⟨2, ![M, K]⟩ : Shape).Reduces [1] ⟨1, ![M]⟩) (hφ : FKind.Formats φ) (ha : acc = FKind.maximumf.neutral φ hφ)
    (hc : (⟨1, ![M]⟩ : Shape).ShapeCasts ⟨2, ![M, 1]⟩) (r : Fin M) :
    shapeCast ⟨2, ![M, 1]⟩ (multiReduction .maximumf [1] ⟨1, ![M]⟩ (absf v) acc h hφ ha) hc (ix2 r 0)
      = amax fun k : Fin K => v (ix2 r k) := by
  rw [col_apply, Ideal.multiReduction_maximumf_single, hb]
  refine congrArg (fun f : Fin K → EReal => (Finset.univ : Finset (Fin K)).fold max ⊥ f) ?_
  exact funext fun k : Fin K => congrArg (absf v) (lift_row h r k)

/-- The exponent counted over the powers of two from 2^-126 up. -/
theorem count_col (y : FVec Ideal ⟨2, ![M, 1]⟩ .f32) (hi : (⟨2, ![1, 253]⟩ : Shape).Iotas .tc 32 [1])
    (hb : (⟨2, ![M, 1]⟩ : Shape).Broadcasts ⟨2, ![M, 253]⟩) (hb' : (⟨2, ![1, 253]⟩ : Shape).Broadcasts ⟨2, ![M, 253]⟩)
    (hw : 1 < 32) (h : (⟨2, ![M, 253]⟩ : Shape).Reduces [1] ⟨1, ![M]⟩) (ha : (0#32 : BitVec 32) = IKind.add.neutral)
    (hc : (⟨1, ![M]⟩ : Shape).ShapeCasts ⟨2, ![M, 1]⟩) (r : Fin M) :
    select (cmpf .oeq y (broadcast ⟨2, ![M, 1]⟩ (Scalar.ofBits (F := Ideal) .f32 0x00000000#32))) (broadcast ⟨2, ![M, 1]⟩ 0#32)
      (subi (subi (shapeCast ⟨2, ![M, 1]⟩ (multiReductionI .add [1] ⟨1, ![M]⟩ (extui 32 (cmpf .oge
        (broadcastTo ⟨2, ![M, 253]⟩ y hb) (broadcastTo ⟨2, ![M, 253]⟩ (bitcastToFloat .f32 (shli (iota .tc ⟨2, ![1, 253]⟩ 32 [1] hi)
        (broadcast ⟨2, ![1, 253]⟩ 23#32))) hb')) hw) 0#32 h ha) hc) (broadcast ⟨2, ![M, 1]⟩ 1#32))
        (broadcast ⟨2, ![M, 1]⟩ 126#32)) (ix2 r 0) = countExp (y (ix2 r 0)) := by
  unfold countExp
  rw [select_apply, cmpf_apply, subi_apply, subi_apply, col_apply, multiReductionI_eq_fold, h.fold_filter_drop_single]
  have e0 : Scalar.ofBits (F := Ideal) .f32 0x00000000#32 = (0 : EReal) := Ideal.ofBits_zero_f32
  have e : ∀ k : Fin 253, (extui 32 (cmpf .oge (broadcastTo ⟨2, ![M, 253]⟩ y hb) (broadcastTo ⟨2, ![M, 253]⟩ (bitcastToFloat .f32
      (shli (iota .tc ⟨2, ![1, 253]⟩ 32 [1] hi) (broadcast ⟨2, ![1, 253]⟩ 23#32))) hb')) hw ∘ h.lift (ix1 r)) k
      = (Ideal.cmp .oge (y (ix2 r 0)) (start (BitVec.ofNat 32 k.val))).setWidth 32 := fun k => by
    show extui 32 _ hw (h.lift (ix1 r) k) = _
    rw [lift_row, extui_apply, cmpf_apply, broadcast_col, broadcast_row, bitcastToFloat_apply, shli_apply, iota_apply]
    simp only [List.foldl_cons, List.foldl_nil, Nat.zero_mul, Nat.zero_add]
    rfl
  rw [show (extui 32 (cmpf .oge (broadcastTo ⟨2, ![M, 253]⟩ y hb) (broadcastTo ⟨2, ![M, 253]⟩ (bitcastToFloat .f32
      (shli (iota .tc ⟨2, ![1, 253]⟩ 32 [1] hi) (broadcast ⟨2, ![1, 253]⟩ 23#32))) hb')) hw ∘ h.lift (ix1 r)) = _ from funext e]
  simp only [broadcast_apply, e0]
  rfl

/-- The exponent taken by a logarithm. -/
theorem log_col (a : FVec Ideal ⟨2, ![M, 1]⟩ .f32) (r : Fin M) :
    select (cmpf .oeq a (broadcast ⟨2, ![M, 1]⟩ (Scalar.ofBits (F := Ideal) .f32 0x00000000#32)))
      (broadcast ⟨2, ![M, 1]⟩ (Scalar.ofBits (F := Ideal) .f32 0x00000000#32))
      (minimumf (broadcast ⟨2, ![M, 1]⟩ (Scalar.ofBits (F := Ideal) .f32 0x42FC0000#32))
        (maximumf (broadcast ⟨2, ![M, 1]⟩ (Scalar.ofBits (F := Ideal) .f32 0xC2FC0000#32))
          (addf (floor (divf (log (mulf a (broadcast ⟨2, ![M, 1]⟩ (Scalar.ofBits (F := Ideal) .f32 0x3B124925#32))))
            (log (broadcast ⟨2, ![M, 1]⟩ (Scalar.ofBits (F := Ideal) .f32 0x40000000#32)))))
            (broadcast ⟨2, ![M, 1]⟩ (Scalar.ofBits (F := Ideal) .f32 0x3F800000#32))))) (ix2 r 0) = logExp (a (ix2 r 0)) := by
  have e0 : Scalar.ofBits (F := Ideal) .f32 0x00000000#32 = (0 : EReal) := Ideal.ofBits_zero_f32
  have e1 : Scalar.ofBits (F := Ideal) .f32 0x3F800000#32 = (1 : EReal) := Ideal.ofBits_one_f32
  have e2 : Scalar.ofBits (F := Ideal) .f32 0x40000000#32 = ((2 : ℝ) : EReal) := ofBits_two
  have e3 : Scalar.ofBits (F := Ideal) .f32 0x42FC0000#32 = ((126 : ℝ) : EReal) := ofBits_126
  have e4 : Scalar.ofBits (F := Ideal) .f32 0xC2FC0000#32 = ((-126 : ℝ) : EReal) := ofBits_neg126
  unfold logExp
  rw [select_apply, cmpf_apply, minimumf_apply, maximumf_apply, addf_apply, floor_apply, divf_apply, log_apply, log_apply, mulf_apply]
  simp only [broadcast_apply, e0, e1, e2, e3, e4]
  rfl

/-- The int8 scale of a row whose largest magnitude is known. -/
theorem scaleI_col {N : ℕ} (z : Fin N → EReal) (a : FVec Ideal ⟨2, ![M, 1]⟩ .f32) (r : Fin M) (h : a (ix2 r 0) = amax z) :
    select (cmpf .ogt a (broadcast ⟨2, ![M, 1]⟩ (Scalar.ofBits (F := Ideal) .f32 0x00000000#32)))
      (divf a (broadcast ⟨2, ![M, 1]⟩ (Scalar.ofBits (F := Ideal) .f32 0x42FE0000#32)))
      (broadcast ⟨2, ![M, 1]⟩ (Scalar.ofBits (F := Ideal) .f32 0x3F800000#32)) (ix2 r 0) = scaleI z := by
  have e0 : Scalar.ofBits (F := Ideal) .f32 0x00000000#32 = (0 : EReal) := Ideal.ofBits_zero_f32
  have e1 : Scalar.ofBits (F := Ideal) .f32 0x3F800000#32 = (1 : EReal) := Ideal.ofBits_one_f32
  rw [select_apply, cmpf_apply, divf_apply, h]
  simp only [broadcast_apply, e0, e1]
  rfl

/-- The int8 codes of a row, before the conversion to words. -/
theorem codeI_apply {N : ℕ} (z : FVec Ideal ⟨2, ![M, N]⟩ .f32) (s : FVec Ideal ⟨2, ![M, 1]⟩ .f32) (zr : Fin N → EReal) (r : Fin M)
    (hz : ∀ c, z (ix2 r c) = zr c) (hs : s (ix2 r 0) = scaleI zr) (hb : (⟨2, ![M, 1]⟩ : Shape).Broadcasts ⟨2, ![M, N]⟩) (c : Fin N) :
    minimumf (broadcast ⟨2, ![M, N]⟩ (Scalar.ofBits (F := Ideal) .f32 0x42FE0000#32))
      (maximumf (broadcast ⟨2, ![M, N]⟩ (Scalar.ofBits (F := Ideal) .f32 0xC2FE0000#32))
        (roundeven (divf z (broadcastTo ⟨2, ![M, N]⟩ s hb)))) (ix2 r c) = codeI zr c := by
  rw [minimumf_apply, maximumf_apply, roundeven_apply, divf_apply, broadcast_col, hz, hs]
  rfl

/-- The fp8 codes of a row, from the reciprocal scale. -/
theorem code8_apply {N : ℕ} (v : FVec Ideal ⟨2, ![M, N]⟩ .f32) (s : FVec Ideal ⟨2, ![M, 1]⟩ .f32) (vr : Fin N → EReal) (r : Fin M)
    (hv : ∀ c, v (ix2 r c) = vr c) (hs : s (ix2 r 0) = Ideal.exp2 (0 - logExp (amax vr)))
    (hb : (⟨2, ![M, 1]⟩ : Shape).Broadcasts ⟨2, ![M, N]⟩) (hw : FTy.fp8e4m3.bits < FTy.f32.bits) (c : Fin N) :
    truncf .fp8e4m3 (minimumf (broadcast ⟨2, ![M, N]⟩ (Scalar.ofBits (F := Ideal) .f32 0x43E00000#32))
      (maximumf (broadcast ⟨2, ![M, N]⟩ (Scalar.ofBits (F := Ideal) .f32 0xC3E00000#32))
        (mulf v (broadcastTo ⟨2, ![M, N]⟩ s hb)))) hw (ix2 r c) = code8 vr c := by
  rw [truncf_apply, minimumf_apply, maximumf_apply, mulf_apply, broadcast_col, hv, hs]
  rfl

/-- A reciprocal scale from the counted exponent. -/
theorem recip_col (e : IVec ⟨2, ![M, 1]⟩ 32) {N : ℕ} (v : Fin N → EReal) (hN : 0 < N) (r : Fin M)
    (he : e (ix2 r 0) = countExp (amax v * c448)) :
    bitcastToFloat (F := Ideal) .f32 (shli (addi (subi (broadcast ⟨2, ![M, 1]⟩ 0#32) e) (broadcast ⟨2, ![M, 1]⟩ 127#32))
      (broadcast ⟨2, ![M, 1]⟩ 23#32)) (ix2 r 0) = Ideal.exp2 (0 - logExp (amax v)) := by
  rw [← (scales (amax v) (amax_nonneg hN v)).2, ← he]
  rfl

/-- A scale from the counted exponent. -/
theorem scale_col (e : IVec ⟨2, ![M, 1]⟩ 32) {N : ℕ} (v : Fin N → EReal) (hN : 0 < N) (r : Fin M)
    (he : e (ix2 r 0) = countExp (amax v * c448)) :
    bitcastToFloat (F := Ideal) .f32 (shli (addi e (broadcast ⟨2, ![M, 1]⟩ 127#32)) (broadcast ⟨2, ![M, 1]⟩ 23#32)) (ix2 r 0)
      = scale8 v := by
  rw [scale8, ← (scales (amax v) (amax_nonneg hN v)).1, ← he]
  rfl

/-- The projection of the codes, scaled by the rows' and the columns' scales. -/
theorem zrow_apply {N : ℕ} {φ₁ φ₂ : FTy} (x : FVec Ideal ⟨2, ![M, K]⟩ φ₁) (v : FVec Ideal ⟨2, ![N, K]⟩ φ₂)
    (s : FVec Ideal ⟨2, ![M, 1]⟩ .f32) (b : FVec Ideal ⟨2, ![1, N]⟩ .f32) (xr : Fin K → EReal) (r : Fin M)
    (hx : ∀ k, x (ix2 r k) = code8 xr k) (hs : s (ix2 r 0) = scale8 xr)
    (ha : (⟨2, ![M, 1]⟩ : Shape).Broadcasts ⟨2, ![M, N]⟩) (hb : (⟨2, ![1, N]⟩ : Shape).Broadcasts ⟨2, ![M, N]⟩)
    (hc : (⟨2, ![1, N]⟩ : Shape).ShapeCasts ⟨2, ![1, N]⟩) (c : Fin N) :
    mulf (mulf (FloatOps.matmul (DotDims.transposedRhs M K N) none x v (constant ⟨2, ![M, N]⟩ .f32 0x00000000#32))
      (broadcastTo ⟨2, ![M, N]⟩ s ha)) (broadcastTo ⟨2, ![M, N]⟩ (shapeCast ⟨2, ![1, N]⟩ b hc) hb) (ix2 r c)
      = zrow xr (fun c k => v (ix2 c k)) (fun c => b (ix2 0 c)) c := by
  rw [mulf_apply, mulf_apply, shapeCast_self, broadcast_col, broadcast_row, Ideal.matmul_transposedRhs_apply, constant_apply,
    Ideal.ofBits_zero_f32, zero_add, hs]
  simp only [hx]
  rfl

/-- One row of the tenants' products: the products by the matrices of the tenants that own the row, added up, times the row's
    scale. -/
theorem hrow_apply {G N L : ℕ} (p : FVec Ideal ⟨2, ![M, L]⟩ .f32) (s : FVec Ideal ⟨2, ![M, 1]⟩ .f32) (own : Fin G → BitVec 1)
    (z : Fin N → EReal) (w : Fin G → Fin N → Fin L → EReal) (r : Fin M)
    (hp : ∀ c, p (ix2 r c) = ∑ g : Fin G, ∑ k : Fin N, Scalar.select (own g) (codeI z k) 0 * w g k c) (hs : s (ix2 r 0) = scaleI z)
    (hb : (⟨2, ![M, 1]⟩ : Shape).Broadcasts ⟨2, ![M, L]⟩) (c : Fin L) :
    mulf p (broadcastTo ⟨2, ![M, L]⟩ s hb) (ix2 r c) = hrow own z w c := by
  rw [mulf_apply, broadcast_col, hp, hs]
  rfl

/-- The bf16 pattern of minus infinity. -/
theorem bot_bf16 : FloatOps.ofBits (F := Ideal) .bf16 0xFF80#16 = (⊥ : EReal) := by
  show Ideal.ofBits .bf16 0xFF80#16 = ⊥
  simp [Ideal.ofBits, Ideal.ieee]

/-- The f32 pattern of minus infinity. -/
theorem bot_f32 : FloatOps.ofBits (F := Ideal) .f32 0xFF800000#32 = (⊥ : EReal) := by
  show Ideal.ofBits .f32 0xFF800000#32 = ⊥
  simp [Ideal.ofBits, Ideal.ieee]

end Cert.Proof.RowOps

end
-- ==== Proof.QuantPay.lean ====
/-
  Hand-written, untrusted. The quantising kernel, its payloads read at an index: each is a function of one row of its block
  of activations and of the tenants' matrices.
-/
module

public import proofs.«01_k».proof.Proof.Gen.QuantIdeal.Skeleton
public import proofs.«01_k».proof.Proof.RowOps

@[expose] public section

noncomputable section

namespace Cert.Proof.QuantPay

open Idealize.ShloMosaic Idealize.ShloMosaic.ValueIdx Cert.QuantIdeal Cert.QuantIdeal.Gen
open Cert.Proof.Exponent Cert.Proof.Rows Cert.Proof.RowOps Cert.Proof.Scaled
open scoped BigOperators

variable (x : FVec Ideal S128x16384 .bf16) (v : FVec Ideal S64x16384 .fp8e4m3) (vs : FVec Ideal S1x64 .f32)
  (sig : IVec S1536x64 8) (sc : FVec Ideal S1536x64 .bf16) (w : ℕ → BitVec 32) (a : BitVec 32) (i : Fin 128)

/-- Row `i` of the block of activations. -/
def xr (k : Fin 16384) : EReal := x (ix2 i k)

/-- Row `i` of the block's projection. -/
def zr (c : Fin 64) : EReal := zrow (xr x i) (fun c k => v (ix2 c k)) (fun c => vs (ix2 0 c)) c

/-- Position of row `k` of tenant `g`'s matrix among the stacked rows. -/
def pos (g : Fin 21) (k : Fin 64) : Fin 1536 := ⟨k.val + 64 * g.val, by have := g.isLt; have := k.isLt; omega⟩

/-- Tenant `g`'s matrix. -/
def wm (g : Fin 21) (k c : Fin 64) : EReal := FloatOps.sitofp (F := Ideal) .bf16 (sig (ix2 (pos g k) c)) * sc (ix2 (pos g k) c)

/-- The number of row `i` of block `a`. -/
def rowNo : BitVec 32 := IntOp.addi (IntOp.muli a 128#32) (BitVec.ofNat 32 i.val)

/-- Row `i` of the tenants' products. -/
def hr (c : Fin 64) : EReal :=
  hrow (fun g : Fin 21 => inRows (rowNo a i) (w g.val) (w (g.val + 1))) (zr x v vs i) (wm sig sc) c

/-- The clip bound 448. -/
abbrev c9 : EReal := Scalar.ofBits (F := Ideal) .f32 0x43E00000#32

theorem exp_apply : k0_pay2 (F := Ideal) x (ix2 i 0) = countExp (amax (xr x i) * c448) := by
  have h := amax_col (k0_pay1 (F := Ideal) x) 0xFF80#16 bot_bf16 reduces_S128x16384_S128 (.inr rfl) rfl shapeCasts_S128_S128x1 i
  refine (count_col _ iota_S1x253_d1_w32 broadcasts_S128x1_S128x253 broadcasts_S1x253_S128x253 natLt_1_32 reduces_S128x253_S128
    rfl shapeCasts_S128_S128x1 i).trans ?_
  rw [mulf_apply, extf_apply, h, broadcast_apply]
  unfold k0_pay1
  simp only [shapeCast_self]
  rfl

theorem xs_apply : k0_pay3 (F := Ideal) x (ix2 i 0) = scale8 (xr x i) :=
  scale_col (k0_pay2 (F := Ideal) x) (xr x i) (by decide) i (exp_apply x i)

theorem xc_apply (k : Fin 16384) :
    k0_pay6 (F := Ideal) (k0_pay4 x) c9 k0_pay5 (ix2 i k) = code8 (xr x i) k := by
  refine code8_apply (extf .f32 (k0_pay1 (F := Ideal) x) bitsLt_bf16_f32) _ (xr x i) i (fun c => ?_) ?_
    broadcasts_S128x1_S128x16384 bitsLt_fp8e4m3_f32 k
  · unfold k0_pay1
    simp only [shapeCast_self]
    rfl
  · exact recip_col (k0_pay2 (F := Ideal) x) (xr x i) (by decide) i (exp_apply x i)

/-- The block's projection. -/
abbrev zA : FVec Ideal S128x64 .f32 := k0_pay7 (F := Ideal) (k0_pay3 x) (k0_pay4 x) c9 k0_pay5 v vs
/-- The int8 scales of the block's projection. -/
abbrev zsA : FVec Ideal S128x1 .f32 := k0_pay8 (F := Ideal) (k0_pay3 x) (k0_pay4 x) c9 k0_pay5 v vs
/-- The int8 codes of the block's projection, before the conversion to words. -/
abbrev zqA : FVec Ideal S128x64 .f32 := k0_pay9 (F := Ideal) (k0_pay3 x) (k0_pay4 x) c9 k0_pay5 v vs

theorem z_apply (c : Fin 64) : zA x v vs (ix2 i c) = zr x v vs i c :=
  zrow_apply (k0_pay6 (F := Ideal) (k0_pay4 x) c9 k0_pay5) v (k0_pay3 (F := Ideal) x) vs (xr x i) i (xc_apply x i) (xs_apply x i)
    broadcasts_S128x1_S128x64 broadcasts_S1x64_S128x64 shapeCasts_S1x64_S1x64 c

theorem zs_apply : zsA x v vs (ix2 i 0) = scaleI (zr x v vs i) := by
  refine scaleI_col _ _ i ?_
  rw [amax_col (zA x v vs) 0xFF800000#32 bot_f32 reduces_S128x64_S128 (.inl rfl) rfl shapeCasts_S128_S128x1 i]
  exact congrArg amax (funext fun c => z_apply x v vs i c)

theorem zq_apply (c : Fin 64) : zqA x v vs (ix2 i c) = codeI (zr x v vs i) c :=
  codeI_apply (zA x v vs) (zsA x v vs) (zr x v vs i) i (z_apply x v vs i) (zs_apply x v vs i) broadcasts_S128x1_S128x64 c

/-- The numbers of the block's rows, along the rows. -/
abbrev rowA : IVec S128x64 32 := k0_pay12 (iota .tc S128x64 32 [0] iota_S128x64_d0_w32) (k0_pay11 a)

theorem row_apply (c : Fin 64) : rowA a (ix2 i c) = rowNo a i := by
  show IntOp.addi (IntOp.muli a 128#32) (BitVec.ofNat 32 _) = _
  simp only [List.foldl_cons, List.foldl_nil, Nat.zero_mul, Nat.zero_add]
  rfl

/-- The codes of the rows `lo ≤ row < hi`, the others zeroed. -/
def part (zq : FVec Ideal S128x64 .f32) (row : IVec S128x64 32) (lo hi : BitVec 32) : FVec Ideal S128x64 .bf16 :=
  truncf .bf16 (select (andi (cmpi .sge row (broadcast S128x64 lo)) (cmpi .slt row (broadcast S128x64 hi))) zq
    (broadcast S128x64 (Scalar.ofBits (F := Ideal) .f32 0x00000000#32))) bitsLt_bf16_f32

/-- The tenants' products of the block. -/
abbrev hA (zs : FVec Ideal S128x1 .f32) (zq : FVec Ideal S128x64 .f32) (row : IVec S128x64 32) : FVec Ideal S128x64 .f32 :=
  k0_pay35 (F := Ideal) zs zq row (part zq row (w 0) (w 1)) (part zq row (w 1) (w 2)) (part zq row (w 2) (w 3))
    (part zq row (w 3) (w 4)) (part zq row (w 4) (w 5)) (part zq row (w 5) (w 6)) (part zq row (w 6) (w 7)) (part zq row (w 7) (w 8))
    (part zq row (w 8) (w 9)) (part zq row (w 9) (w 10)) (part zq row (w 10) (w 11)) (part zq row (w 11) (w 12))
    (part zq row (w 12) (w 13)) (part zq row (w 13) (w 14)) (part zq row (w 14) (w 15)) (part zq row (w 15) (w 16))
    (part zq row (w 16) (w 17)) (part zq row (w 17) (w 18)) (cmpi .sge row (broadcast S128x64 (w 18))) (w 19) (w 19) (w 20) (w 20)
    (w 21) sig sc

/-- The parts side by side: the tenants', then three of zeros. -/
def piece (zq : FVec Ideal S128x64 .f32) (row : IVec S128x64 32) (n : Fin 24) : FVec Ideal S128x64 .bf16 :=
  if n.val < 21 then part zq row (w n.val) (w (n.val + 1)) else broadcast S128x64 (Scalar.ofBits (F := Ideal) .bf16 0x0000#16)

theorem concatenates (p : Fin 24 → (S128x64.Idx → EReal)) :
    Shape.Concatenates ((List.ofFn fun n : Fin 24 => (⟨S128x64, p n⟩ : (s : Shape) × (s.Idx → EReal))).map (·.1)) S128x1536 1 := by
  rw [List.map_ofFn]
  exact concatenates_S128x64_S128x64_S128x64_S128x64_S128x64_S128x64_S128x64_S128x64_S128x64_S128x64_S128x64_S128x64_S128x64_S128x64_S128x64_S128x64_S128x64_S128x64_S128x64_S128x64_S128x64_S128x64_S128x64_S128x64_S128x1536_d1

/-- The parts side by side. -/
def sideBySide (p : Fin 24 → (S128x64.Idx → EReal)) : S128x1536.Idx → EReal :=
  concatenate S128x1536 1
    ([⟨S128x64, p 0⟩, ⟨S128x64, p 1⟩, ⟨S128x64, p 2⟩, ⟨S128x64, p 3⟩, ⟨S128x64, p 4⟩, ⟨S128x64, p 5⟩, ⟨S128x64, p 6⟩,
      ⟨S128x64, p 7⟩, ⟨S128x64, p 8⟩, ⟨S128x64, p 9⟩, ⟨S128x64, p 10⟩, ⟨S128x64, p 11⟩, ⟨S128x64, p 12⟩, ⟨S128x64, p 13⟩,
      ⟨S128x64, p 14⟩, ⟨S128x64, p 15⟩, ⟨S128x64, p 16⟩, ⟨S128x64, p 17⟩, ⟨S128x64, p 18⟩, ⟨S128x64, p 19⟩, ⟨S128x64, p 20⟩,
      ⟨S128x64, p 21⟩, ⟨S128x64, p 22⟩, ⟨S128x64, p 23⟩] : List ((s : Shape) × (s.Idx → EReal)))
    concatenates_S128x64_S128x64_S128x64_S128x64_S128x64_S128x64_S128x64_S128x64_S128x64_S128x64_S128x64_S128x64_S128x64_S128x64_S128x64_S128x64_S128x64_S128x64_S128x64_S128x64_S128x64_S128x64_S128x64_S128x64_S128x1536_d1

/-- Column `j` of the parts side by side is column `k` of part `n`, where `j = k + 64 n`. -/
theorem sideBySide_apply (p : Fin 24 → (S128x64.Idx → EReal)) (n : Fin 24) (k : Fin 64) (j : Fin 1536)
    (hj : j.val = k.val + 64 * n.val) : sideBySide p (ix2 i j) = p n (ix2 i k) := by
  have e : sideBySide p = concatenate S128x1536 1
      (List.ofFn fun n : Fin 24 => (⟨S128x64, p n⟩ : (s : Shape) × (s.Idx → EReal))) (concatenates p) := rfl
  rw [e]
  have hk := k.isLt
  refine concatenate_ofFn_apply 1 p (concatenates p) rfl 64 rfl (ix2 i j) n ?_ (ix2 i k) ?_ fun b hb => ?_
  · show j.val / 64 = n.val
    omega
  · show k.val = j.val % 64
    omega
  · match b, hb with
    | ⟨0, _⟩, _ => rfl
    | ⟨1, _⟩, hb => exact absurd rfl hb

theorem hA_eq (zs : FVec Ideal S128x1 .f32) (zq : FVec Ideal S128x64 .f32) (row : IVec S128x64 32) :
    hA sig sc w zs zq row = mulf (FloatOps.matmul (φ₁ := .bf16) (φ₂ := .bf16) (DotDims.plain 128 1536 64) none
      (sideBySide (piece w zq row) : FVec Ideal S128x1536 .bf16)
      (mulf (sitofp .bf16 (shapeCast S1536x64 sig shapeCasts_S1536x64_S1536x64)) (shapeCast S1536x64 sc shapeCasts_S1536x64_S1536x64)
        : FVec Ideal S1536x64 .bf16) (constant S128x64 .f32 0x00000000#32))
      (broadcastTo S128x64 zs broadcasts_S128x1_S128x64) := rfl

theorem part_apply (zq : FVec Ideal S128x64 .f32) (row : IVec S128x64 32) (lo hi : BitVec 32) (k : Fin 64) :
    part zq row lo hi (ix2 i k) = Scalar.select (inRows (row (ix2 i k)) lo hi) (zq (ix2 i k)) 0 := by
  unfold part
  rw [truncf_apply, select_apply, andi_apply, cmpi_apply, cmpi_apply, broadcast_apply, broadcast_apply, broadcast_apply]
  exact congrArg (fun e : EReal => Scalar.select (inRows (row (ix2 i k)) lo hi) (zq (ix2 i k)) e) Ideal.ofBits_zero_f32

theorem ofBits_zero_bf16 : (Scalar.ofBits (F := Ideal) .bf16 0x0000#16 : EReal) = 0 := by
  show Ideal.ofBits .bf16 0x0000#16 = 0
  simp [Ideal.ofBits, Ideal.ieee]

/-- The sum over the stacked rows: the tenants' rows, the rows past them meeting zeros. -/
theorem sum_stacked (zq : FVec Ideal S128x64 .f32) (row : IVec S128x64 32) (q : Fin 1536 → EReal) :
    (∑ j : Fin 1536, sideBySide (piece w zq row) (ix2 i j) * q j)
      = ∑ g : Fin 21, ∑ k : Fin 64, part zq row (w g.val) (w (g.val + 1)) (ix2 i k) * q (pos g k) := by
  have e : (∑ j : Fin 1536, sideBySide (piece w zq row) (ix2 i j) * q j)
      = ∑ n : Fin (21 + 3), ∑ k : Fin 64, piece w zq row n (ix2 i k) * q (finProdFinEquiv (m := 24) (n := 64) (n, k)) := by
    rw [← Fintype.sum_prod_type' (f := fun (n : Fin 24) (k : Fin 64) =>
      piece w zq row n (ix2 i k) * q (finProdFinEquiv (m := 24) (n := 64) (n, k)))]
    rw [← Equiv.sum_comp (finProdFinEquiv (m := 24) (n := 64))]
    refine Finset.sum_congr rfl fun nk _ => ?_
    rw [sideBySide_apply i (piece w zq row) nk.1 nk.2 _ rfl]
  rw [e, Fin.sum_univ_add]
  have z : (∑ n : Fin 3, ∑ k : Fin 64, piece w zq row (Fin.natAdd 21 n) (ix2 i k)
      * q (finProdFinEquiv (m := 24) (n := 64) (Fin.natAdd 21 n, k))) = 0 := by
    refine Finset.sum_eq_zero fun n _ => Finset.sum_eq_zero fun k _ => ?_
    have hn : ¬ (Fin.natAdd 21 n).val < 21 := by simp
    unfold piece
    rw [if_neg hn, broadcast_apply, ofBits_zero_bf16, zero_mul]
  rw [z, add_zero]
  refine Finset.sum_congr rfl fun g _ => Finset.sum_congr rfl fun k _ => ?_
  have hg : (Fin.castAdd 3 g).val < 21 := g.isLt
  unfold piece
  rw [if_pos hg]
  rfl

/-- The tenants' products of the block. -/
abbrev hK : FVec Ideal S128x64 .f32 := hA sig sc w (zsA x v vs) (zqA x v vs) (rowA a)

theorem h_apply (c : Fin 64) : hK x v vs sig sc w a (ix2 i c) = hr x v vs sig sc w a i c := by
  unfold hK
  rw [hA_eq]
  refine hrow_apply _ _ _ _ _ i (fun c => ?_) (zs_apply x v vs i) broadcasts_S128x1_S128x64 c
  rw [Ideal.matmul_plain_apply, constant_apply, Ideal.ofBits_zero_f32, zero_add, sum_stacked]
  refine Finset.sum_congr rfl fun g _ => Finset.sum_congr rfl fun k _ => ?_
  rw [part_apply, row_apply, zq_apply, mulf_apply, shapeCast_self, shapeCast_self, sitofp_apply]
  rfl

/-- The largest magnitudes of the rows of the tenants' products. -/
abbrev hmA (h : FVec Ideal S128x64 .f32) : FVec Ideal S128x1 .f32 :=
  shapeCast S128x1 (multiReduction .maximumf [1] S128 (absf h) 0xFF800000#32 reduces_S128x64_S128 (.inl rfl) rfl) shapeCasts_S128_S128x1

/-- The constant 1/448. -/
abbrev c80 : EReal := Scalar.ofBits (F := Ideal) .f32 0x3B124925#32

theorem hexp_apply : k0_pay37 (F := Ideal) (hmA (hK x v vs sig sc w a)) c80 (ix2 i 0)
    = countExp (amax (hr x v vs sig sc w a i) * c448) := by
  refine (count_col _ iota_S1x253_d1_w32 broadcasts_S128x1_S128x253 broadcasts_S1x253_S128x253 natLt_1_32 reduces_S128x253_S128
    rfl shapeCasts_S128_S128x1 i).trans ?_
  have h : hmA (hK x v vs sig sc w a) (ix2 i 0) = amax fun c : Fin 64 => hK x v vs sig sc w a (ix2 i c) :=
    amax_col (hK x v vs sig sc w a) 0xFF800000#32 bot_f32 reduces_S128x64_S128 (.inl rfl) rfl shapeCasts_S128_S128x1 i
  rw [mulf_apply, h, broadcast_apply]
  exact congrArg (fun f => countExp (amax f * c448)) (funext fun c => h_apply x v vs sig sc w a i c)

theorem hs_apply : k0_pay39 (F := Ideal) (hmA (hK x v vs sig sc w a)) c80 (ix2 i 0) = scale8 (hr x v vs sig sc w a i) :=
  scale_col (k0_pay37 (F := Ideal) (hmA (hK x v vs sig sc w a)) c80) (hr x v vs sig sc w a i) (by decide) i
    (hexp_apply x v vs sig sc w a i)

theorem hc_apply (c : Fin 64) : k0_pay38 (F := Ideal) (hK x v vs sig sc w a) (hmA (hK x v vs sig sc w a)) c80 (ix2 i c)
    = code8 (hr x v vs sig sc w a i) c :=
  code8_apply (hK x v vs sig sc w a) _ (hr x v vs sig sc w a i) i (h_apply x v vs sig sc w a i)
    (recip_col (k0_pay37 (F := Ideal) (hmA (hK x v vs sig sc w a)) c80) (hr x v vs sig sc w a i) (by decide) i
      (hexp_apply x v vs sig sc w a i)) broadcasts_S128x1_S128x64 bitsLt_fp8e4m3_f32 c

end Cert.Proof.QuantPay

end
-- ==== Proof.QuantBody.lean ====
/-
  Hand-written, untrusted. The quantising kernel at one grid point: what it leaves in each result's block is the payload of
  its input blocks, of the table's words and of the point's number.
-/
module

public import proofs.«01_k».proof.Proof.Gen.QuantIdeal.Frame
public import proofs.«01_k».proof.Proof.QuantPay
public import Idealize.ShloMosaic.Lib.VecWindow
public import Idealize.ShloMosaic.Lib.WholeRead

@[expose] public section
noncomputable section
namespace Cert.Proof.QuantBody
open Idealize.ShloMosaic Idealize.ShloMosaic.ValueIdx Cert.QuantIdeal Cert.QuantIdeal.Gen
open Cert.Proof.Exponent Cert.Proof.Rows Cert.Proof.RowOps Cert.Proof.QuantPay

/-- A load of a whole buffer reads its contents. -/
theorem readAt_whole {κ : Kind} {sp : Space} {S : Shape} {e : EltTy} {a : Memref sig κ sp S e} (h : a.IsWhole)
    (X : S.Idx → Elt Ideal e) {off : Fin S.rank → ℕ} (ho : off = fun _ => 0) (inb : ∀ a, off a + S.size a ≤ S.size a) :
    View.readAt (Elt Ideal) a.view (Rect.unit off S.size inb).toLoadRect (h.unread X) = X := by
  subst ho
  funext x
  refine (h.readAt_unread X _ x).trans (congrArg X (funext fun a => Fin.ext ?_))
  show 0 + 1 * (x a).val = (x a).val
  omega

variable {c : Dev nD} {i : grid0.Coords} {arg2 : Memref sig .tc .vmem S128x16384 .bf16} {harg2 : arg2.IsWhole} {arg3 : Memref sig .tc .vmem S64x16384 .fp8e4m3} {harg3 : arg3.IsWhole} {arg4 : Memref sig .tc .vmem S1x64 .f32} {harg4 : arg4.IsWhole} {arg5 : Memref sig .tc .vmem S1536x64 .i8} {harg5 : arg5.IsWhole} {arg6 : Memref sig .tc .vmem S1536x64 .bf16} {harg6 : arg6.IsWhole} {arg7 : Memref sig .tc .vmem S128x16384 .fp8e4m3} {harg7 : arg7.IsWhole} {arg8 : Memref sig .tc .vmem S128x1 .f32} {harg8 : arg8.IsWhole} {arg9 : Memref sig .tc .vmem S128x64 .i8} {harg9 : arg9.IsWhole} {arg10 : Memref sig .tc .vmem S128x1 .f32} {harg10 : arg10.IsWhole} {arg11 : Memref sig .tc .vmem S128x64 .fp8e4m3} {harg11 : arg11.IsWhole} {arg12 : Memref sig .tc .vmem S128x1 .f32} {harg12 : arg12.IsWhole}
variable (x0 : Vec Ideal S128x16384 .bf16) (x1 : Vec Ideal S64x16384 .fp8e4m3) (x2 : Vec Ideal S1x64 .f32) (x3 : Vec Ideal S1536x64 .i8) (x4 : Vec Ideal S1536x64 .bf16) (xt0 : TbBuf0 (F := Ideal) c tbM0_0)

/-- Word `n` of the table of the tenants' bounds. -/
def tw (n : ℕ) : BitVec 32 := xt0 (ix1 (Fin.ofNat 22 n))

theorem word (n : ℕ) (h : n < 22) (inb : ∀ a, (![n] : Fin 1 → ℕ) a + (![1] : Fin 1 → ℕ) a ≤ S22.size a)
    (p : 0 < (Rect.unit (s := S22) ![n] ![1] inb).toLoadRect.shape.numel) :
    View.readAt (Elt Ideal) (View.whole main_v2) (Rect.unit (s := S22) ![n] ![1] inb).toLoadRect xt0 (Shape.Idx.first p) = tw xt0 n := by
  refine congrArg xt0 (funext fun a => Fin.ext ?_)
  match a with
  | ⟨0, _⟩ =>
    show n + 1 * 0 = n % 22
    rw [Nat.mod_eq_of_lt h]
    rfl

/-- The number of the grid point, as the kernel reads it. -/
abbrev pid (i : grid0.Coords) : BitVec 32 := BitVec.ofNat 32 (i 0).val

theorem body5 : out0_A_5 (F := Ideal) c i arg2 harg2 arg3 harg3 arg4 harg4 arg5 harg5 arg6 harg6 arg7 harg7 arg8 harg8 arg9 harg9 arg10 harg10 arg11 harg11 arg12 harg12 x0 x1 x2 x3 x4 xt0 = k0_pay6 (F := Ideal) (k0_pay4 x0) c9 k0_pay5 := by
  unfold out0_A_5 kernelRun0_A
  dsimp only
  rw [View.read_writes_full]
  unfold kernelRun0_A.sl.r_1
  rw [readAt_whole harg2 x0 (by decide)]
  rfl

theorem body6 : out0_A_6 (F := Ideal) c i arg2 harg2 arg3 harg3 arg4 harg4 arg5 harg5 arg6 harg6 arg7 harg7 arg8 harg8 arg9 harg9 arg10 harg10 arg11 harg11 arg12 harg12 x0 x1 x2 x3 x4 xt0 = k0_pay3 (F := Ideal) x0 := by
  unfold out0_A_6 kernelRun0_A
  dsimp only
  rw [View.read_writes_full]
  unfold kernelRun0_A.sl.r
  rw [readAt_whole harg2 x0 (by decide)]

theorem body7 : out0_A_7 (F := Ideal) c i arg2 harg2 arg3 harg3 arg4 harg4 arg5 harg5 arg6 harg6 arg7 harg7 arg8 harg8 arg9 harg9 arg10 harg10 arg11 harg11 arg12 harg12 x0 x1 x2 x3 x4 xt0 = k0_pay10 (F := Ideal) (k0_pay3 x0) (k0_pay4 x0) c9 k0_pay5 x1 x2 := by
  unfold out0_A_7 kernelRun0_A
  dsimp only
  rw [View.read_writes_full]
  unfold kernelRun0_A.sl.r_1 kernelRun0_A.sl.r
  rw [readAt_whole harg2 x0 (by decide), readAt_whole harg3 x1 (by decide), readAt_whole harg4 x2 (by decide)]
  rfl

theorem body8 : out0_A_8 (F := Ideal) c i arg2 harg2 arg3 harg3 arg4 harg4 arg5 harg5 arg6 harg6 arg7 harg7 arg8 harg8 arg9 harg9 arg10 harg10 arg11 harg11 arg12 harg12 x0 x1 x2 x3 x4 xt0 = zsA x0 x1 x2 := by
  unfold out0_A_8 kernelRun0_A
  dsimp only
  rw [View.read_writes_full]
  unfold kernelRun0_A.sl.r_1 kernelRun0_A.sl.r
  rw [readAt_whole harg2 x0 (by decide), readAt_whole harg3 x1 (by decide), readAt_whole harg4 x2 (by decide)]
  rfl

theorem e2 : kernelRun0_A.sl.r_2 (F := Ideal) c arg2 harg2 arg3 harg3 arg4 harg4 x0 x1 x2 = zsA x0 x1 x2 := by
  unfold kernelRun0_A.sl.r_2 kernelRun0_A.sl.r_1 kernelRun0_A.sl.r
  rw [readAt_whole harg2 x0 (by decide), readAt_whole harg3 x1 (by decide), readAt_whole harg4 x2 (by decide)]
  rfl

theorem e3 : kernelRun0_A.sl.r_3 (F := Ideal) c arg2 harg2 arg3 harg3 arg4 harg4 x0 x1 x2 = zqA x0 x1 x2 := by
  unfold kernelRun0_A.sl.r_3 kernelRun0_A.sl.r_1 kernelRun0_A.sl.r
  rw [readAt_whole harg2 x0 (by decide), readAt_whole harg3 x1 (by decide), readAt_whole harg4 x2 (by decide)]
  rfl

theorem body9 : out0_A_9 (F := Ideal) c i arg2 harg2 arg3 harg3 arg4 harg4 arg5 harg5 arg6 harg6 arg7 harg7 arg8 harg8 arg9 harg9 arg10 harg10 arg11 harg11 arg12 harg12 x0 x1 x2 x3 x4 xt0 = k0_pay38 (F := Ideal) (hK x0 x1 x2 x3 x4 (tw xt0) (pid i)) (hmA (hK x0 x1 x2 x3 x4 (tw xt0) (pid i))) c80 := by
  unfold out0_A_9 kernelRun0_A
  dsimp only
  rw [View.read_writes_full]
  have e5 : View.readAt (Elt Ideal) arg5.view (Rect.unit ![0, 0] ![1536, 64] inb_S1536x64_S1536x64_0_0).toLoadRect (harg5.unread x3) = x3 :=
    readAt_whole harg5 x3 (by decide) _
  have e6 : View.readAt (Elt Ideal) arg6.view (Rect.unit ![0, 0] ![1536, 64] inb_S1536x64_S1536x64_0_0).toLoadRect (harg6.unread x4) = x4 :=
    readAt_whole harg6 x4 (by decide) _
  simp only [kernelRun0_A.sl.r_51, kernelRun0_A.sl.r_50, e5, e6]
  simp only [kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50]
  simp only [e2, e3]
  simp (disch := decide) only [word]
  rfl

theorem body10 : out0_A_10 (F := Ideal) c i arg2 harg2 arg3 harg3 arg4 harg4 arg5 harg5 arg6 harg6 arg7 harg7 arg8 harg8 arg9 harg9 arg10 harg10 arg11 harg11 arg12 harg12 x0 x1 x2 x3 x4 xt0 = k0_pay39 (F := Ideal) (hmA (hK x0 x1 x2 x3 x4 (tw xt0) (pid i))) c80 := by
  unfold out0_A_10 kernelRun0_A
  dsimp only
  rw [View.read_writes_full]
  have e5 : View.readAt (Elt Ideal) arg5.view (Rect.unit ![0, 0] ![1536, 64] inb_S1536x64_S1536x64_0_0).toLoadRect (harg5.unread x3) = x3 :=
    readAt_whole harg5 x3 (by decide) _
  have e6 : View.readAt (Elt Ideal) arg6.view (Rect.unit ![0, 0] ![1536, 64] inb_S1536x64_S1536x64_0_0).toLoadRect (harg6.unread x4) = x4 :=
    readAt_whole harg6 x4 (by decide) _
  simp only [kernelRun0_A.sl.r_51, e5, e6]
  simp only [kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50]
  simp only [e2, e3]
  simp (disch := decide) only [word]
  rfl

end Cert.Proof.QuantBody
end
-- ==== Proof.QuantValue.lean ====
/-
  Hand-written, untrusted. The quantising kernel's result arrays as functions of the arrays its region finds: each point
  works on the 128 rows of its block of activations and on the whole of the other arrays, and the points' blocks tile each
  result.
-/
module

public import proofs.«01_k».proof.Proof.QuantBody

@[expose] public section

noncomputable section

namespace Cert.Proof.QuantValue

open Idealize.ShloMosaic Idealize.ShloMosaic.ValueIdx Cert.QuantIdeal Cert.QuantIdeal.Gen Idealize.ShloMosaic.TcCoe
open Idealize.ShloMosaic.Pipeline (Dat Cfg Window)
open Cert.Proof.Rows Cert.Proof.QuantPay Cert.Proof.QuantBody

/-- The grid's one coordinate is the point's number. -/
theorem coord : ∀ t : Fin grid0.N, (grid0.coords t 0).val = t.val := by decide +kernel

theorem lt20 (t : Fin grid0.N) : t.val < 20 := t.isLt

/-- The array row of row `r` of point `t`'s block. -/
def row (t : Fin grid0.N) (r : Fin 128) : Fin 2560 := ⟨t.val * 128 + r.val, by have := lt20 t; omega⟩

theorem rowNo_eq (t : Fin grid0.N) (r : Fin 128) : rowNo (pid (grid0.coords t)) r = BitVec.ofNat 32 (row t r).val := by
  show BitVec.ofNat 32 (grid0.coords t 0).val * 128#32 + BitVec.ofNat 32 r.val = _
  rw [coord, ← BitVec.ofNat_mul, ← BitVec.ofNat_add]
  rfl

/-! Where the blocks lie: those of the activations and of the results move down the rows, the others are whole arrays. -/

theorem tr0 : ∀ t : Fin grid0.N, cc0_transform_0 (grid0.coords t) 0 = t.val ∧ cc0_transform_0 (grid0.coords t) 1 = 0 := by decide +kernel
theorem tr5 : ∀ t : Fin grid0.N, cc0_transform_5 (grid0.coords t) 0 = t.val ∧ cc0_transform_5 (grid0.coords t) 1 = 0 := by decide +kernel
theorem tr6 : ∀ t : Fin grid0.N, cc0_transform_6 (grid0.coords t) 0 = t.val ∧ cc0_transform_6 (grid0.coords t) 1 = 0 := by decide +kernel
theorem tr7 : ∀ t : Fin grid0.N, cc0_transform_7 (grid0.coords t) 0 = t.val ∧ cc0_transform_7 (grid0.coords t) 1 = 0 := by decide +kernel
theorem tr8 : ∀ t : Fin grid0.N, cc0_transform_8 (grid0.coords t) 0 = t.val ∧ cc0_transform_8 (grid0.coords t) 1 = 0 := by decide +kernel
theorem tr9 : ∀ t : Fin grid0.N, cc0_transform_9 (grid0.coords t) 0 = t.val ∧ cc0_transform_9 (grid0.coords t) 1 = 0 := by decide +kernel
theorem tr10 : ∀ t : Fin grid0.N, cc0_transform_10 (grid0.coords t) 0 = t.val ∧ cc0_transform_10 (grid0.coords t) 1 = 0 := by decide +kernel
theorem tr1 : ∀ t : Fin grid0.N, ∀ a, cc0_transform_1 (grid0.coords t) a = 0 := by decide +kernel
theorem tr2 : ∀ t : Fin grid0.N, ∀ a, cc0_transform_2 (grid0.coords t) a = 0 := by decide +kernel
theorem tr3 : ∀ t : Fin grid0.N, ∀ a, cc0_transform_3 (grid0.coords t) a = 0 := by decide +kernel
theorem tr4 : ∀ t : Fin grid0.N, ∀ a, cc0_transform_4 (grid0.coords t) a = 0 := by decide +kernel

variable (m : (ℓ : Loc nD τ sig) → Buf (Elt Ideal) ℓ) (hO : Ok m)

theorem emb0 (t : Fin (cfgM m hO).N) (r : Fin 128) (k : Fin 16384) :
    (((cfgM m hO).win 0).rect t).emb (ix2 r k) = ix2 (row t r) k := by
  refine Shape.idx_ext₂ ((((cfgM m hO).win 0).rect_emb_val t _ _).trans ?_) ((((cfgM m hO).win 0).rect_emb_val t _ _).trans ?_)
  · show cc0_transform_0 (grid0.coords t) 0 * 128 + r.val = t.val * 128 + r.val
    rw [(tr0 t).1]
  · show cc0_transform_0 (grid0.coords t) 1 * 16384 + k.val = k.val
    rw [(tr0 t).2]; omega
/-- Point `t`'s block of the activations. -/
def B0 (c : Dev nD) (t : Fin (cfgM m hO).N) : Vec Ideal S128x16384 .bf16 := iblk m hO c 0 t
theorem B0_apply (c : Dev nD) (t : Fin (cfgM m hO).N) (r : Fin 128) (k : Fin 16384) :
    B0 m hO c t (ix2 r k) = V m c main_v10 (ix2 (row t r) k) := by
  show V m c main_v10 ((((cfgM m hO).win 0).rect t).emb (ix2 r k)) = _
  rw [emb0]
/-- Point `t`'s block of window 1's array, which is the whole of it. -/
def B1 (c : Dev nD) (t : Fin (cfgM m hO).N) : Vec Ideal S64x16384 .fp8e4m3 := iblk m hO c 1 t
theorem B1_eq (c : Dev nD) (t : Fin (cfgM m hO).N) : B1 m hO c t = V m c main_arg1 := by
  funext j
  show V m c main_arg1 ((((cfgM m hO).win 1).rect t).emb j) = _
  exact congrArg _ (funext fun a => Fin.ext (((cfgM m hO).win 1).rect_emb_val_of_index_zero t a (tr1 t a) j))
/-- Point `t`'s block of window 2's array, which is the whole of it. -/
def B2 (c : Dev nD) (t : Fin (cfgM m hO).N) : Vec Ideal S1x64 .f32 := iblk m hO c 2 t
theorem B2_eq (c : Dev nD) (t : Fin (cfgM m hO).N) : B2 m hO c t = V m c main_v11 := by
  funext j
  show V m c main_v11 ((((cfgM m hO).win 2).rect t).emb j) = _
  exact congrArg _ (funext fun a => Fin.ext (((cfgM m hO).win 2).rect_emb_val_of_index_zero t a (tr2 t a) j))
/-- Point `t`'s block of window 3's array, which is the whole of it. -/
def B3 (c : Dev nD) (t : Fin (cfgM m hO).N) : Vec Ideal S1536x64 .i8 := iblk m hO c 3 t
theorem B3_eq (c : Dev nD) (t : Fin (cfgM m hO).N) : B3 m hO c t = V m c main_v8 := by
  funext j
  show V m c main_v8 ((((cfgM m hO).win 3).rect t).emb j) = _
  exact congrArg _ (funext fun a => Fin.ext (((cfgM m hO).win 3).rect_emb_val_of_index_zero t a (tr3 t a) j))
/-- Point `t`'s block of window 4's array, which is the whole of it. -/
def B4 (c : Dev nD) (t : Fin (cfgM m hO).N) : Vec Ideal S1536x64 .bf16 := iblk m hO c 4 t
theorem B4_eq (c : Dev nD) (t : Fin (cfgM m hO).N) : B4 m hO c t = V m c main_v9 := by
  funext j
  show V m c main_v9 ((((cfgM m hO).win 4).rect t).emb j) = _
  exact congrArg _ (funext fun a => Fin.ext (((cfgM m hO).win 4).rect_emb_val_of_index_zero t a (tr4 t a) j))

/-! What each result array is shown to hold. -/

/-- Row `i` of the activations. -/
def xg (c : Dev nD) (i : Fin 2560) (k : Fin 16384) : EReal := V m c main_v10 (ix2 i k)
/-- Row `i` of the projection. -/
def zg (c : Dev nD) (i : Fin 2560) (j : Fin 64) : EReal :=
  zrow (xg m c i) (fun j k => V m c main_arg1 (ix2 j k)) (fun j => V m c main_v11 (ix2 0 j)) j
/-- Row `i` of the tenants' products. -/
def hg (c : Dev nD) (i : Fin 2560) (j : Fin 64) : EReal :=
  hrow (fun g : Fin 21 => inRows (BitVec.ofNat 32 i.val) (tw (c := c) (tbl m 0) g.val) (tw (c := c) (tbl m 0) (g.val + 1))) (zg m c i)
    (wm (V m c main_v8) (V m c main_v9)) j

theorem xr_eq (c : Dev nD) (t : Fin (cfgM m hO).N) (r : Fin 128) : xr (B0 m hO c t) r = xg m c (row t r) :=
  funext fun k => B0_apply m hO c t r k
theorem zr_eq (c : Dev nD) (t : Fin (cfgM m hO).N) (r : Fin 128) :
    zr (B0 m hO c t) (B1 m hO c t) (B2 m hO c t) r = zg m c (row t r) := by
  funext j
  unfold zr zg
  rw [xr_eq, B1_eq, B2_eq]
theorem hr_eq (c : Dev nD) (t : Fin (cfgM m hO).N) (r : Fin 128) :
    hr (B0 m hO c t) (B1 m hO c t) (B2 m hO c t) (B3 m hO c t) (B4 m hO c t) (tw (c := c) (tbl m 0)) (pid (grid0.coords t)) r
      = hg m c (row t r) := by
  funext j
  unfold hr hg
  rw [zr_eq, rowNo_eq, B3_eq, B4_eq]

def G5 (c : Dev nD) : S2560x16384.Idx → EReal := fun i => code8 (xg m c (i 0)) (i 1)
def G6 (c : Dev nD) : S2560x1.Idx → EReal := fun i => scale8 (xg m c (i 0))
def G7 (c : Dev nD) : S2560x64.Idx → BitVec 8 := fun i => FloatOps.fptosi (F := Ideal) (φ := .f32) 8 (codeI (zg m c (i 0)) (i 1))
def G8 (c : Dev nD) : S2560x1.Idx → EReal := fun i => scaleI (zg m c (i 0))
def G9 (c : Dev nD) : S2560x64.Idx → EReal := fun i => code8 (hg m c (i 0)) (i 1)
def G10 (c : Dev nD) : S2560x1.Idx → EReal := fun i => scale8 (hg m c (i 0))

/-! Each result array ends at that. -/

theorem emb5 (t : Fin (cfgM m hO).N) (r : Fin 128) (k : Fin 16384) :
    (((cfgM m hO).win 5).rect t).emb (ix2 r k) = ix2 (row t r) k := by
  refine Shape.idx_ext₂ ((((cfgM m hO).win 5).rect_emb_val t _ _).trans ?_) ((((cfgM m hO).win 5).rect_emb_val t _ _).trans ?_)
  · show cc0_transform_5 (grid0.coords t) 0 * 128 + r.val = t.val * 128 + r.val
    rw [(tr5 t).1]
  · show cc0_transform_5 (grid0.coords t) 1 * 16384 + k.val = k.val
    rw [(tr5 t).2]; omega
theorem cut5 (t : Fin (cfgM m hO).N) (O : Vec Ideal S128x16384 .fp8e4m3) (G : Vec Ideal S2560x16384 .fp8e4m3)
    (h : ∀ (r : Fin 128) (k : Fin 16384), O (ix2 r k) = G (ix2 (row t r) k)) :
    ((cfgM m hO).win 5).cut (grid0.coords t) O = (((cfgM m hO).win 5).blk t).view.read (Elt Ideal) G := by
  funext (j : S128x16384.Idx)
  obtain ⟨r, k, rfl⟩ : ∃ r k, j = ix2 r k := ⟨j 0, j 1, eq_ix2 j⟩
  show O (ix2 r k) = G ((((cfgM m hO).win 5).rect t).emb (ix2 r k))
  rw [emb5, h]
theorem flushed5 (c : Dev nD) (t : Fin (cfgM m hO).N) :
    (dats m hO 0 c).flushed 5 t = (((cfgM m hO).win 5).blk t).view.read (Elt Ideal) (G5 m c) := by
  have b := (body5 (c := c) (i := grid0.coords t) (arg2 := ms0_0 m hO t) (harg2 := hs0_0 m hO t) (arg3 := ms0_1 m hO t) (harg3 := hs0_1 m hO t) (arg4 := ms0_2 m hO t) (harg4 := hs0_2 m hO t) (arg5 := ms0_3 m hO t) (harg5 := hs0_3 m hO t) (arg6 := ms0_4 m hO t) (harg6 := hs0_4 m hO t) (arg7 := ms0_5 m hO t) (harg7 := hs0_5 m hO t) (arg8 := ms0_6 m hO t) (harg8 := hs0_6 m hO t) (arg9 := ms0_7 m hO t) (harg9 := hs0_7 m hO t) (arg10 := ms0_8 m hO t) (harg10 := hs0_8 m hO t) (arg11 := ms0_9 m hO t) (harg11 := hs0_9 m hO t) (arg12 := ms0_10 m hO t) (harg12 := hs0_10 m hO t)
    (B0 m hO c t) (B1 m hO c t) (B2 m hO c t) (B3 m hO c t) (B4 m hO c t) (tbl m 0))
  show ((cfgM m hO).win 5).cut (grid0.coords t) ((dats m hO 0 c).after 5 t) = _
  rw [after0_5]
  unfold outsAt0
  dsimp only
  refine (congrArg (((cfgM m hO).win 5).cut (grid0.coords t)) b).trans ?_
  refine cut5 m hO t _ (G5 m c) fun r k => ?_
  show _ = code8 (xg m c (row t r)) k
  rw [← xr_eq m hO c t r]
  exact xc_apply (B0 m hO c t) r k
theorem cover5 (i : S2560x16384.Idx) :
    ∃ t : Fin (cfgM m hO).N, ((cfgM m hO).win 5).flush t = true ∧ i ∈ (((cfgM m hO).win 5).blk t).view.set := by
  have h0 : (i 0).val < 2560 := (i 0).isLt
  let t : Fin (cfgM m hO).N := (⟨(i 0).val / 128, by show (i 0).val / 128 < 20; omega⟩ : Fin grid0.N)
  let j : S128x16384.Idx := ix2 (⟨(i 0).val % 128, by omega⟩ : Fin 128) (i 1)
  refine ⟨t, flush0_5 (adm m hO) t, ?_⟩
  have h := (((cfgM m hO).win 5).blk t).view.emb_mem_set j
  have e : (((cfgM m hO).win 5).blk t).view.emb j = i := by
    refine (emb5 m hO t _ _).trans (Shape.idx_ext₂ ?_ rfl)
    show (i 0).val / 128 * 128 + (i 0).val % 128 = (i 0).val
    omega
  rwa [e] at h
theorem final5 (c : Dev nD) : (dats m hO 0 c).arrAt 5 (cfgM m hO).N = G5 m c :=
  (dats m hO 0 c).arrAt_eq_of_cover 5 (G5 m c) (fun t _ => flushed5 m hO c t) (cover5 m hO)

theorem emb6 (t : Fin (cfgM m hO).N) (r : Fin 128) (k : Fin 1) :
    (((cfgM m hO).win 6).rect t).emb (ix2 r k) = ix2 (row t r) k := by
  refine Shape.idx_ext₂ ((((cfgM m hO).win 6).rect_emb_val t _ _).trans ?_) ((((cfgM m hO).win 6).rect_emb_val t _ _).trans ?_)
  · show cc0_transform_6 (grid0.coords t) 0 * 128 + r.val = t.val * 128 + r.val
    rw [(tr6 t).1]
  · show cc0_transform_6 (grid0.coords t) 1 * 1 + k.val = k.val
    rw [(tr6 t).2]; omega
theorem cut6 (t : Fin (cfgM m hO).N) (O : Vec Ideal S128x1 .f32) (G : Vec Ideal S2560x1 .f32)
    (h : ∀ (r : Fin 128) (k : Fin 1), O (ix2 r k) = G (ix2 (row t r) k)) :
    ((cfgM m hO).win 6).cut (grid0.coords t) O = (((cfgM m hO).win 6).blk t).view.read (Elt Ideal) G := by
  funext (j : S128x1.Idx)
  obtain ⟨r, k, rfl⟩ : ∃ r k, j = ix2 r k := ⟨j 0, j 1, eq_ix2 j⟩
  show O (ix2 r k) = G ((((cfgM m hO).win 6).rect t).emb (ix2 r k))
  rw [emb6, h]
theorem flushed6 (c : Dev nD) (t : Fin (cfgM m hO).N) :
    (dats m hO 0 c).flushed 6 t = (((cfgM m hO).win 6).blk t).view.read (Elt Ideal) (G6 m c) := by
  have b := (body6 (c := c) (i := grid0.coords t) (arg2 := ms0_0 m hO t) (harg2 := hs0_0 m hO t) (arg3 := ms0_1 m hO t) (harg3 := hs0_1 m hO t) (arg4 := ms0_2 m hO t) (harg4 := hs0_2 m hO t) (arg5 := ms0_3 m hO t) (harg5 := hs0_3 m hO t) (arg6 := ms0_4 m hO t) (harg6 := hs0_4 m hO t) (arg7 := ms0_5 m hO t) (harg7 := hs0_5 m hO t) (arg8 := ms0_6 m hO t) (harg8 := hs0_6 m hO t) (arg9 := ms0_7 m hO t) (harg9 := hs0_7 m hO t) (arg10 := ms0_8 m hO t) (harg10 := hs0_8 m hO t) (arg11 := ms0_9 m hO t) (harg11 := hs0_9 m hO t) (arg12 := ms0_10 m hO t) (harg12 := hs0_10 m hO t)
    (B0 m hO c t) (B1 m hO c t) (B2 m hO c t) (B3 m hO c t) (B4 m hO c t) (tbl m 0))
  have e : (outsAt0 m hO c t).2.1 = _ := b
  show ((cfgM m hO).win 6).cut (grid0.coords t) ((dats m hO 0 c).after 6 t) = _
  rw [after0_6, e]
  refine cut6 m hO t _ (G6 m c) fun r k => ?_
  obtain rfl : k = 0 := Subsingleton.elim _ _
  show _ = scale8 (xg m c (row t r))
  rw [← xr_eq m hO c t r]
  exact xs_apply (B0 m hO c t) r
theorem cover6 (i : S2560x1.Idx) :
    ∃ t : Fin (cfgM m hO).N, ((cfgM m hO).win 6).flush t = true ∧ i ∈ (((cfgM m hO).win 6).blk t).view.set := by
  have h0 : (i 0).val < 2560 := (i 0).isLt
  let t : Fin (cfgM m hO).N := (⟨(i 0).val / 128, by show (i 0).val / 128 < 20; omega⟩ : Fin grid0.N)
  let j : S128x1.Idx := ix2 (⟨(i 0).val % 128, by omega⟩ : Fin 128) (i 1)
  refine ⟨t, flush0_6 (adm m hO) t, ?_⟩
  have h := (((cfgM m hO).win 6).blk t).view.emb_mem_set j
  have e : (((cfgM m hO).win 6).blk t).view.emb j = i := by
    refine (emb6 m hO t _ _).trans (Shape.idx_ext₂ ?_ rfl)
    show (i 0).val / 128 * 128 + (i 0).val % 128 = (i 0).val
    omega
  rwa [e] at h
theorem final6 (c : Dev nD) : (dats m hO 0 c).arrAt 6 (cfgM m hO).N = G6 m c :=
  (dats m hO 0 c).arrAt_eq_of_cover 6 (G6 m c) (fun t _ => flushed6 m hO c t) (cover6 m hO)

theorem emb7 (t : Fin (cfgM m hO).N) (r : Fin 128) (k : Fin 64) :
    (((cfgM m hO).win 7).rect t).emb (ix2 r k) = ix2 (row t r) k := by
  refine Shape.idx_ext₂ ((((cfgM m hO).win 7).rect_emb_val t _ _).trans ?_) ((((cfgM m hO).win 7).rect_emb_val t _ _).trans ?_)
  · show cc0_transform_7 (grid0.coords t) 0 * 128 + r.val = t.val * 128 + r.val
    rw [(tr7 t).1]
  · show cc0_transform_7 (grid0.coords t) 1 * 64 + k.val = k.val
    rw [(tr7 t).2]; omega
theorem cut7 (t : Fin (cfgM m hO).N) (O : Vec Ideal S128x64 .i8) (G : Vec Ideal S2560x64 .i8)
    (h : ∀ (r : Fin 128) (k : Fin 64), O (ix2 r k) = G (ix2 (row t r) k)) :
    ((cfgM m hO).win 7).cut (grid0.coords t) O = (((cfgM m hO).win 7).blk t).view.read (Elt Ideal) G := by
  funext (j : S128x64.Idx)
  obtain ⟨r, k, rfl⟩ : ∃ r k, j = ix2 r k := ⟨j 0, j 1, eq_ix2 j⟩
  show O (ix2 r k) = G ((((cfgM m hO).win 7).rect t).emb (ix2 r k))
  rw [emb7, h]
theorem flushed7 (c : Dev nD) (t : Fin (cfgM m hO).N) :
    (dats m hO 0 c).flushed 7 t = (((cfgM m hO).win 7).blk t).view.read (Elt Ideal) (G7 m c) := by
  have b := (body7 (c := c) (i := grid0.coords t) (arg2 := ms0_0 m hO t) (harg2 := hs0_0 m hO t) (arg3 := ms0_1 m hO t) (harg3 := hs0_1 m hO t) (arg4 := ms0_2 m hO t) (harg4 := hs0_2 m hO t) (arg5 := ms0_3 m hO t) (harg5 := hs0_3 m hO t) (arg6 := ms0_4 m hO t) (harg6 := hs0_4 m hO t) (arg7 := ms0_5 m hO t) (harg7 := hs0_5 m hO t) (arg8 := ms0_6 m hO t) (harg8 := hs0_6 m hO t) (arg9 := ms0_7 m hO t) (harg9 := hs0_7 m hO t) (arg10 := ms0_8 m hO t) (harg10 := hs0_8 m hO t) (arg11 := ms0_9 m hO t) (harg11 := hs0_9 m hO t) (arg12 := ms0_10 m hO t) (harg12 := hs0_10 m hO t)
    (B0 m hO c t) (B1 m hO c t) (B2 m hO c t) (B3 m hO c t) (B4 m hO c t) (tbl m 0))
  have e : (outsAt0 m hO c t).2.2.1 = _ := b
  show ((cfgM m hO).win 7).cut (grid0.coords t) ((dats m hO 0 c).after 7 t) = _
  rw [after0_7, e]
  refine cut7 m hO t _ (G7 m c) fun r k => ?_
  show _ = FloatOps.fptosi (F := Ideal) (φ := .f32) 8 (codeI (zg m c (row t r)) k)
  rw [← zr_eq m hO c t r]
  exact congrArg (FloatOps.fptosi (F := Ideal) (φ := .f32) 8) (zq_apply (B0 m hO c t) (B1 m hO c t) (B2 m hO c t) r k)
theorem cover7 (i : S2560x64.Idx) :
    ∃ t : Fin (cfgM m hO).N, ((cfgM m hO).win 7).flush t = true ∧ i ∈ (((cfgM m hO).win 7).blk t).view.set := by
  have h0 : (i 0).val < 2560 := (i 0).isLt
  let t : Fin (cfgM m hO).N := (⟨(i 0).val / 128, by show (i 0).val / 128 < 20; omega⟩ : Fin grid0.N)
  let j : S128x64.Idx := ix2 (⟨(i 0).val % 128, by omega⟩ : Fin 128) (i 1)
  refine ⟨t, flush0_7 (adm m hO) t, ?_⟩
  have h := (((cfgM m hO).win 7).blk t).view.emb_mem_set j
  have e : (((cfgM m hO).win 7).blk t).view.emb j = i := by
    refine (emb7 m hO t _ _).trans (Shape.idx_ext₂ ?_ rfl)
    show (i 0).val / 128 * 128 + (i 0).val % 128 = (i 0).val
    omega
  rwa [e] at h
theorem final7 (c : Dev nD) : (dats m hO 0 c).arrAt 7 (cfgM m hO).N = G7 m c :=
  (dats m hO 0 c).arrAt_eq_of_cover 7 (G7 m c) (fun t _ => flushed7 m hO c t) (cover7 m hO)

theorem emb8 (t : Fin (cfgM m hO).N) (r : Fin 128) (k : Fin 1) :
    (((cfgM m hO).win 8).rect t).emb (ix2 r k) = ix2 (row t r) k := by
  refine Shape.idx_ext₂ ((((cfgM m hO).win 8).rect_emb_val t _ _).trans ?_) ((((cfgM m hO).win 8).rect_emb_val t _ _).trans ?_)
  · show cc0_transform_8 (grid0.coords t) 0 * 128 + r.val = t.val * 128 + r.val
    rw [(tr8 t).1]
  · show cc0_transform_8 (grid0.coords t) 1 * 1 + k.val = k.val
    rw [(tr8 t).2]; omega
theorem cut8 (t : Fin (cfgM m hO).N) (O : Vec Ideal S128x1 .f32) (G : Vec Ideal S2560x1 .f32)
    (h : ∀ (r : Fin 128) (k : Fin 1), O (ix2 r k) = G (ix2 (row t r) k)) :
    ((cfgM m hO).win 8).cut (grid0.coords t) O = (((cfgM m hO).win 8).blk t).view.read (Elt Ideal) G := by
  funext (j : S128x1.Idx)
  obtain ⟨r, k, rfl⟩ : ∃ r k, j = ix2 r k := ⟨j 0, j 1, eq_ix2 j⟩
  show O (ix2 r k) = G ((((cfgM m hO).win 8).rect t).emb (ix2 r k))
  rw [emb8, h]
theorem flushed8 (c : Dev nD) (t : Fin (cfgM m hO).N) :
    (dats m hO 0 c).flushed 8 t = (((cfgM m hO).win 8).blk t).view.read (Elt Ideal) (G8 m c) := by
  have b := (body8 (c := c) (i := grid0.coords t) (arg2 := ms0_0 m hO t) (harg2 := hs0_0 m hO t) (arg3 := ms0_1 m hO t) (harg3 := hs0_1 m hO t) (arg4 := ms0_2 m hO t) (harg4 := hs0_2 m hO t) (arg5 := ms0_3 m hO t) (harg5 := hs0_3 m hO t) (arg6 := ms0_4 m hO t) (harg6 := hs0_4 m hO t) (arg7 := ms0_5 m hO t) (harg7 := hs0_5 m hO t) (arg8 := ms0_6 m hO t) (harg8 := hs0_6 m hO t) (arg9 := ms0_7 m hO t) (harg9 := hs0_7 m hO t) (arg10 := ms0_8 m hO t) (harg10 := hs0_8 m hO t) (arg11 := ms0_9 m hO t) (harg11 := hs0_9 m hO t) (arg12 := ms0_10 m hO t) (harg12 := hs0_10 m hO t)
    (B0 m hO c t) (B1 m hO c t) (B2 m hO c t) (B3 m hO c t) (B4 m hO c t) (tbl m 0))
  have e : (outsAt0 m hO c t).2.2.2.1 = _ := b
  show ((cfgM m hO).win 8).cut (grid0.coords t) ((dats m hO 0 c).after 8 t) = _
  rw [after0_8, e]
  refine cut8 m hO t _ (G8 m c) fun r k => ?_
  obtain rfl : k = 0 := Subsingleton.elim _ _
  show _ = scaleI (zg m c (row t r))
  rw [← zr_eq m hO c t r]
  exact zs_apply (B0 m hO c t) (B1 m hO c t) (B2 m hO c t) r
theorem cover8 (i : S2560x1.Idx) :
    ∃ t : Fin (cfgM m hO).N, ((cfgM m hO).win 8).flush t = true ∧ i ∈ (((cfgM m hO).win 8).blk t).view.set := by
  have h0 : (i 0).val < 2560 := (i 0).isLt
  let t : Fin (cfgM m hO).N := (⟨(i 0).val / 128, by show (i 0).val / 128 < 20; omega⟩ : Fin grid0.N)
  let j : S128x1.Idx := ix2 (⟨(i 0).val % 128, by omega⟩ : Fin 128) (i 1)
  refine ⟨t, flush0_8 (adm m hO) t, ?_⟩
  have h := (((cfgM m hO).win 8).blk t).view.emb_mem_set j
  have e : (((cfgM m hO).win 8).blk t).view.emb j = i := by
    refine (emb8 m hO t _ _).trans (Shape.idx_ext₂ ?_ rfl)
    show (i 0).val / 128 * 128 + (i 0).val % 128 = (i 0).val
    omega
  rwa [e] at h
theorem final8 (c : Dev nD) : (dats m hO 0 c).arrAt 8 (cfgM m hO).N = G8 m c :=
  (dats m hO 0 c).arrAt_eq_of_cover 8 (G8 m c) (fun t _ => flushed8 m hO c t) (cover8 m hO)

theorem emb9 (t : Fin (cfgM m hO).N) (r : Fin 128) (k : Fin 64) :
    (((cfgM m hO).win 9).rect t).emb (ix2 r k) = ix2 (row t r) k := by
  refine Shape.idx_ext₂ ((((cfgM m hO).win 9).rect_emb_val t _ _).trans ?_) ((((cfgM m hO).win 9).rect_emb_val t _ _).trans ?_)
  · show cc0_transform_9 (grid0.coords t) 0 * 128 + r.val = t.val * 128 + r.val
    rw [(tr9 t).1]
  · show cc0_transform_9 (grid0.coords t) 1 * 64 + k.val = k.val
    rw [(tr9 t).2]; omega
theorem cut9 (t : Fin (cfgM m hO).N) (O : Vec Ideal S128x64 .fp8e4m3) (G : Vec Ideal S2560x64 .fp8e4m3)
    (h : ∀ (r : Fin 128) (k : Fin 64), O (ix2 r k) = G (ix2 (row t r) k)) :
    ((cfgM m hO).win 9).cut (grid0.coords t) O = (((cfgM m hO).win 9).blk t).view.read (Elt Ideal) G := by
  funext (j : S128x64.Idx)
  obtain ⟨r, k, rfl⟩ : ∃ r k, j = ix2 r k := ⟨j 0, j 1, eq_ix2 j⟩
  show O (ix2 r k) = G ((((cfgM m hO).win 9).rect t).emb (ix2 r k))
  rw [emb9, h]
theorem flushed9 (c : Dev nD) (t : Fin (cfgM m hO).N) :
    (dats m hO 0 c).flushed 9 t = (((cfgM m hO).win 9).blk t).view.read (Elt Ideal) (G9 m c) := by
  have b := (body9 (c := c) (i := grid0.coords t) (arg2 := ms0_0 m hO t) (harg2 := hs0_0 m hO t) (arg3 := ms0_1 m hO t) (harg3 := hs0_1 m hO t) (arg4 := ms0_2 m hO t) (harg4 := hs0_2 m hO t) (arg5 := ms0_3 m hO t) (harg5 := hs0_3 m hO t) (arg6 := ms0_4 m hO t) (harg6 := hs0_4 m hO t) (arg7 := ms0_5 m hO t) (harg7 := hs0_5 m hO t) (arg8 := ms0_6 m hO t) (harg8 := hs0_6 m hO t) (arg9 := ms0_7 m hO t) (harg9 := hs0_7 m hO t) (arg10 := ms0_8 m hO t) (harg10 := hs0_8 m hO t) (arg11 := ms0_9 m hO t) (harg11 := hs0_9 m hO t) (arg12 := ms0_10 m hO t) (harg12 := hs0_10 m hO t)
    (B0 m hO c t) (B1 m hO c t) (B2 m hO c t) (B3 m hO c t) (B4 m hO c t) (tbl m 0))
  have e : (outsAt0 m hO c t).2.2.2.2.1 = _ := b
  show ((cfgM m hO).win 9).cut (grid0.coords t) ((dats m hO 0 c).after 9 t) = _
  rw [after0_9, e]
  refine cut9 m hO t _ (G9 m c) fun r k => ?_
  show _ = code8 (hg m c (row t r)) k
  rw [← hr_eq m hO c t r]
  exact hc_apply (B0 m hO c t) (B1 m hO c t) (B2 m hO c t) (B3 m hO c t) (B4 m hO c t) (tw (c := c) (tbl m 0)) (pid (grid0.coords t)) r k
theorem cover9 (i : S2560x64.Idx) :
    ∃ t : Fin (cfgM m hO).N, ((cfgM m hO).win 9).flush t = true ∧ i ∈ (((cfgM m hO).win 9).blk t).view.set := by
  have h0 : (i 0).val < 2560 := (i 0).isLt
  let t : Fin (cfgM m hO).N := (⟨(i 0).val / 128, by show (i 0).val / 128 < 20; omega⟩ : Fin grid0.N)
  let j : S128x64.Idx := ix2 (⟨(i 0).val % 128, by omega⟩ : Fin 128) (i 1)
  refine ⟨t, flush0_9 (adm m hO) t, ?_⟩
  have h := (((cfgM m hO).win 9).blk t).view.emb_mem_set j
  have e : (((cfgM m hO).win 9).blk t).view.emb j = i := by
    refine (emb9 m hO t _ _).trans (Shape.idx_ext₂ ?_ rfl)
    show (i 0).val / 128 * 128 + (i 0).val % 128 = (i 0).val
    omega
  rwa [e] at h
theorem final9 (c : Dev nD) : (dats m hO 0 c).arrAt 9 (cfgM m hO).N = G9 m c :=
  (dats m hO 0 c).arrAt_eq_of_cover 9 (G9 m c) (fun t _ => flushed9 m hO c t) (cover9 m hO)

theorem emb10 (t : Fin (cfgM m hO).N) (r : Fin 128) (k : Fin 1) :
    (((cfgM m hO).win 10).rect t).emb (ix2 r k) = ix2 (row t r) k := by
  refine Shape.idx_ext₂ ((((cfgM m hO).win 10).rect_emb_val t _ _).trans ?_) ((((cfgM m hO).win 10).rect_emb_val t _ _).trans ?_)
  · show cc0_transform_10 (grid0.coords t) 0 * 128 + r.val = t.val * 128 + r.val
    rw [(tr10 t).1]
  · show cc0_transform_10 (grid0.coords t) 1 * 1 + k.val = k.val
    rw [(tr10 t).2]; omega
theorem cut10 (t : Fin (cfgM m hO).N) (O : Vec Ideal S128x1 .f32) (G : Vec Ideal S2560x1 .f32)
    (h : ∀ (r : Fin 128) (k : Fin 1), O (ix2 r k) = G (ix2 (row t r) k)) :
    ((cfgM m hO).win 10).cut (grid0.coords t) O = (((cfgM m hO).win 10).blk t).view.read (Elt Ideal) G := by
  funext (j : S128x1.Idx)
  obtain ⟨r, k, rfl⟩ : ∃ r k, j = ix2 r k := ⟨j 0, j 1, eq_ix2 j⟩
  show O (ix2 r k) = G ((((cfgM m hO).win 10).rect t).emb (ix2 r k))
  rw [emb10, h]
theorem flushed10 (c : Dev nD) (t : Fin (cfgM m hO).N) :
    (dats m hO 0 c).flushed 10 t = (((cfgM m hO).win 10).blk t).view.read (Elt Ideal) (G10 m c) := by
  have b := (body10 (c := c) (i := grid0.coords t) (arg2 := ms0_0 m hO t) (harg2 := hs0_0 m hO t) (arg3 := ms0_1 m hO t) (harg3 := hs0_1 m hO t) (arg4 := ms0_2 m hO t) (harg4 := hs0_2 m hO t) (arg5 := ms0_3 m hO t) (harg5 := hs0_3 m hO t) (arg6 := ms0_4 m hO t) (harg6 := hs0_4 m hO t) (arg7 := ms0_5 m hO t) (harg7 := hs0_5 m hO t) (arg8 := ms0_6 m hO t) (harg8 := hs0_6 m hO t) (arg9 := ms0_7 m hO t) (harg9 := hs0_7 m hO t) (arg10 := ms0_8 m hO t) (harg10 := hs0_8 m hO t) (arg11 := ms0_9 m hO t) (harg11 := hs0_9 m hO t) (arg12 := ms0_10 m hO t) (harg12 := hs0_10 m hO t)
    (B0 m hO c t) (B1 m hO c t) (B2 m hO c t) (B3 m hO c t) (B4 m hO c t) (tbl m 0))
  have e : (outsAt0 m hO c t).2.2.2.2.2 = _ := b
  show ((cfgM m hO).win 10).cut (grid0.coords t) ((dats m hO 0 c).after 10 t) = _
  rw [after0_10, e]
  refine cut10 m hO t _ (G10 m c) fun r k => ?_
  obtain rfl : k = 0 := Subsingleton.elim _ _
  show _ = scale8 (hg m c (row t r))
  rw [← hr_eq m hO c t r]
  exact hs_apply (B0 m hO c t) (B1 m hO c t) (B2 m hO c t) (B3 m hO c t) (B4 m hO c t) (tw (c := c) (tbl m 0)) (pid (grid0.coords t)) r
theorem cover10 (i : S2560x1.Idx) :
    ∃ t : Fin (cfgM m hO).N, ((cfgM m hO).win 10).flush t = true ∧ i ∈ (((cfgM m hO).win 10).blk t).view.set := by
  have h0 : (i 0).val < 2560 := (i 0).isLt
  let t : Fin (cfgM m hO).N := (⟨(i 0).val / 128, by show (i 0).val / 128 < 20; omega⟩ : Fin grid0.N)
  let j : S128x1.Idx := ix2 (⟨(i 0).val % 128, by omega⟩ : Fin 128) (i 1)
  refine ⟨t, flush0_10 (adm m hO) t, ?_⟩
  have h := (((cfgM m hO).win 10).blk t).view.emb_mem_set j
  have e : (((cfgM m hO).win 10).blk t).view.emb j = i := by
    refine (emb10 m hO t _ _).trans (Shape.idx_ext₂ ?_ rfl)
    show (i 0).val / 128 * 128 + (i 0).val % 128 = (i 0).val
    omega
  rwa [e] at h
theorem final10 (c : Dev nD) : (dats m hO 0 c).arrAt 10 (cfgM m hO).N = G10 m c :=
  (dats m hO 0 c).arrAt_eq_of_cover 10 (G10 m c) (fun t _ => flushed10 m hO c t) (cover10 m hO)

end Cert.Proof.QuantValue

end
-- ==== Proof.QuantRefPay.lean ====
/-
  Hand-written, untrusted. The reference of the quantising stage, its payloads read at an index: each is a function of one
  row of the activations and of the tenants' matrices.
-/
module

public import proofs.«01_k».proof.Proof.Gen.QuantRefIdeal.Skeleton
public import proofs.«01_k».proof.Proof.RowOps

@[expose] public section

noncomputable section

namespace Cert.Proof.QuantRefPay

open Idealize.ShloMosaic Idealize.ShloMosaic.ValueIdx Cert.QuantRefIdeal Cert.QuantRefIdeal.Gen
open Cert.Proof.Exponent Cert.Proof.Rows Cert.Proof.RowOps Cert.Proof.Scaled
open scoped BigOperators

variable (x : FVec Ideal S2560x16384 .bf16) (v : FVec Ideal S64x16384 .fp8e4m3) (vs : FVec Ideal S1x64 .f32)
  (sig : IVec S21x64x64 8) (sc : FVec Ideal S21x64x64 .bf16) (st en : IVec S21x1x1 32) (i : Fin 2560)

/-- Row `i` of the activations. -/
def xr (k : Fin 16384) : EReal := x (ix2 i k)

/-- Row `i` of the projection. -/
def zr (c : Fin 64) : EReal := zrow (xr x i) (fun c k => v (ix2 c k)) (fun c => vs (ix2 0 c)) c

/-- Tenant `g`'s matrix. -/
def wm (g : Fin 21) (k c : Fin 64) : EReal := FloatOps.sitofp (F := Ideal) .bf16 (sig (ix3 g k c)) * sc (ix3 g k c)

/-- Row `i` of the tenants' products. -/
def hr (c : Fin 64) : EReal :=
  hrow (fun g => inRows (BitVec.ofNat 32 i.val) (st (ix3 g 0 0)) (en (ix3 g 0 0))) (zr x v vs i) (wm sig sc) c

theorem exp_apply : k0_pay2 (F := Ideal) x (ix2 i 0) = logExp (amax (xr x i)) := by
  have h := amax_col (k0_pay1 (F := Ideal) x) 0xFF800000#32 bot_f32 reduces_S2560x16384_S2560 (.inl rfl) rfl shapeCasts_S2560_S2560x1 i
  refine (log_col _ i).trans ?_
  rw [h]
  unfold k0_pay1
  simp only [shapeCast_self]
  rfl

theorem xs_apply : k0_pay4 (F := Ideal) x (ix2 i 0) = scale8 (xr x i) := by
  unfold k0_pay4
  rw [exp2_apply, exp_apply]
  rfl

theorem xc_apply (k : Fin 16384) : k0_pay3 (F := Ideal) x (ix2 i k) = code8 (xr x i) k := by
  refine code8_apply (k0_pay1 (F := Ideal) x) _ (xr x i) i (fun c => ?_) ?_ broadcasts_S2560x1_S2560x16384 bitsLt_fp8e4m3_f32 k
  · unfold k0_pay1
    simp only [shapeCast_self]
    rfl
  · rw [exp2_apply, subf_apply, exp_apply, broadcast_apply]
    exact congrArg (fun e : EReal => Ideal.exp2 (e - logExp (amax (xr x i)))) Ideal.ofBits_zero_f32

theorem z_apply (c : Fin 64) : k0_pay5 (F := Ideal) x v vs (ix2 i c) = zr x v vs i c :=
  zrow_apply (k0_pay3 (F := Ideal) x) v (k0_pay4 (F := Ideal) x) vs (xr x i) i (xc_apply x i) (xs_apply x i)
    broadcasts_S2560x1_S2560x64 broadcasts_S1x64_S2560x64 shapeCasts_S1x64_S1x64 c

theorem zs_apply : k0_pay6 (F := Ideal) (k0_pay5 (F := Ideal) x v vs) (ix2 i 0) = scaleI (zr x v vs i) := by
  refine scaleI_col _ _ i ?_
  rw [amax_col (k0_pay5 (F := Ideal) x v vs) 0xFF800000#32 bot_f32 reduces_S2560x64_S2560 (.inl rfl) rfl shapeCasts_S2560_S2560x1 i]
  exact congrArg amax (funext fun c => z_apply x v vs i c)

theorem zq_apply (c : Fin 64) : k0_pay7 (F := Ideal) (k0_pay5 (F := Ideal) x v vs) (ix2 i c) = codeI (zr x v vs i) c :=
  codeI_apply _ _ (zr x v vs i) i (z_apply x v vs i) (zs_apply x v vs i) broadcasts_S2560x1_S2560x64 c

theorem lift_sum (g : Fin 21) (c : Fin 64) : (reduces_S21x2560x64_S2560x64).lift (ix2 i c) g = ix3 g i c := by
  funext a; apply Fin.ext
  fin_cases a <;> rfl

theorem batched_apply (l : FVec Ideal S21x2560x64 .bf16) (r : FVec Ideal S21x64x64 .bf16) (g : Fin 21) (c : Fin 64) :
    FloatOps.matmul dot_S21x2560x64_S21x64x64_S21x2560x64_2_1_1_2_0_0 none l r (constant S21x2560x64 .f32 0x00000000#32) (ix3 g i c)
      = ∑ k : Fin 64, l (ix3 g i k) * r (ix3 g k c) := by
  have hr : dot_S21x2560x64_S21x64x64_S21x2560x64_2_1_1_2_0_0.contr.rank = 1 := rfl
  have hs : dot_S21x2560x64_S21x64x64_S21x2560x64_2_1_1_2_0_0.contr.size ⟨0, by rw [hr]; exact Nat.one_pos⟩ = 64 := rfl
  rw [Ideal.matmul_apply, constant_apply, Ideal.ofBits_zero_f32, zero_add, ← Equiv.sum_comp (contrEquiv1 _ 64 hr hs).symm]
  refine Finset.sum_congr rfl fun k _ => ?_
  have hk := contrEquiv1_symm_val _ 64 hr hs k
  have el : dot_S21x2560x64_S21x64x64_S21x2560x64_2_1_1_2_0_0.lhsIdx (ix3 g i c) ((contrEquiv1 _ 64 hr hs).symm k) = ix3 g i k := by
    funext a; apply Fin.ext
    match a with
    | ⟨0, _⟩ => rfl
    | ⟨1, _⟩ => rfl
    | ⟨2, _⟩ => exact hk
  have er : dot_S21x2560x64_S21x64x64_S21x2560x64_2_1_1_2_0_0.rhsIdx (ix3 g i c) ((contrEquiv1 _ 64 hr hs).symm k) = ix3 g k c := by
    funext a; apply Fin.ext
    match a with
    | ⟨0, _⟩ => rfl
    | ⟨1, _⟩ => exact hk
    | ⟨2, _⟩ => rfl
  rw [el, er]

theorem word_col (w : IVec S21x1x1 32) (g : Fin 21) (k : Fin 64) :
    broadcastTo S21x2560x64 (shapeCast S21x1x1 w shapeCasts_S21x1x1_S21x1x1) broadcasts_S21x1x1_S21x2560x64 (ix3 g i k)
      = w (ix3 g 0 0) := by
  rw [shapeCast_self]
  refine broadcastTo_apply w _ (ix3 g i k) (ix3 g 0 0) fun a => ?_
  match a with
  | ⟨0, _⟩ => rfl
  | ⟨1, _⟩ => rfl
  | ⟨2, _⟩ => rfl

theorem stacked (y : FVec Ideal S2560x64 .f32) (g : Fin 21) (k : Fin 64) :
    broadcastTo S21x2560x64 (shapeCast S1x2560x64 (shapeCast S1x2560x64 y shapeCasts_S2560x64_S1x2560x64)
      shapeCasts_S1x2560x64_S1x2560x64) broadcasts_S1x2560x64_S21x2560x64 (ix3 g i k) = y (ix2 i k) := by
  rw [shapeCast_self]
  refine (broadcastTo_apply _ _ (ix3 g i k) (ix3 0 i k) fun a => ?_).trans ?_
  · match a with
    | ⟨0, _⟩ => rfl
    | ⟨1, _⟩ => rfl
    | ⟨2, _⟩ => rfl
  · exact shapeCast_apply y _ _ _ (by rw [rowMajor_ix3, rowMajor_ix2]; simp)

theorem hacc_apply (c : Fin 64) :
    k0_pay8 (F := Ideal) (k0_pay5 (F := Ideal) x v vs) sig sc st en (ix2 i c)
      = ∑ g : Fin 21, ∑ k : Fin 64, Scalar.select (inRows (BitVec.ofNat 32 i.val) (st (ix3 g 0 0)) (en (ix3 g 0 0)))
          (codeI (zr x v vs i) k) 0 * wm sig sc g k c := by
  refine (Ideal.multiReduction_add_single _ _ reduces_S21x2560x64_S2560x64 (.inl rfl) rfl (ix2 i c)).trans ?_
  refine Finset.sum_congr rfl fun (g : Fin 21) _ => ?_
  refine (congrArg _ (lift_sum i g c)).trans ?_
  refine (batched_apply i _ _ g c).trans (Finset.sum_congr rfl fun k _ => ?_)
  rw [truncf_apply, select_apply, andi_apply, cmpi_apply, cmpi_apply, word_col, word_col, stacked, zq_apply, iota_apply, mulf_apply,
    shapeCast_self, sitofp_apply, broadcast_apply]
  simp only [List.foldl_cons, List.foldl_nil, Nat.zero_mul, Nat.zero_add]
  exact congrArg (fun e : EReal => Scalar.select (inRows (BitVec.ofNat 32 i.val) (st (ix3 g 0 0)) (en (ix3 g 0 0)))
          (codeI (zr x v vs i) k) e * wm sig sc g k c) Ideal.ofBits_zero_f32

/-- The rows' int8 scales. -/
abbrev zsA : FVec Ideal S2560x1 .f32 := k0_pay6 (F := Ideal) (k0_pay5 (F := Ideal) x v vs)
/-- The tenants' products, before the rows' scales. -/
abbrev haccA : FVec Ideal S2560x64 .f32 := k0_pay8 (F := Ideal) (k0_pay5 (F := Ideal) x v vs) sig sc st en

theorem h_apply (c : Fin 64) : k0_pay9 (F := Ideal) (zsA x v vs) (haccA x v vs sig sc st en) (ix2 i c) = hr x v vs sig sc st en i c :=
  hrow_apply _ _ _ _ _ i (hacc_apply x v vs sig sc st en i) (zs_apply x v vs i) broadcasts_S2560x1_S2560x64 c

theorem hexp_apply :
    k0_pay10 (F := Ideal) (zsA x v vs) (haccA x v vs sig sc st en) (ix2 i 0) = logExp (amax (hr x v vs sig sc st en i)) := by
  refine (log_col _ i).trans ?_
  rw [amax_col _ 0xFF800000#32 bot_f32 reduces_S2560x64_S2560 (.inl rfl) rfl shapeCasts_S2560_S2560x1 i]
  exact congrArg (fun f => logExp (amax f)) (funext fun c => h_apply x v vs sig sc st en i c)

theorem hs_apply :
    k0_pay12 (F := Ideal) (zsA x v vs) (haccA x v vs sig sc st en) (ix2 i 0) = scale8 (hr x v vs sig sc st en i) := by
  unfold k0_pay12
  rw [exp2_apply, hexp_apply]
  rfl

theorem hc_apply (c : Fin 64) :
    k0_pay11 (F := Ideal) (zsA x v vs) (haccA x v vs sig sc st en) (ix2 i c) = code8 (hr x v vs sig sc st en i) c := by
  refine code8_apply (k0_pay9 (F := Ideal) (zsA x v vs) (haccA x v vs sig sc st en)) _ (hr x v vs sig sc st en i) i
    (h_apply x v vs sig sc st en i) ?_ broadcasts_S2560x1_S2560x64 bitsLt_fp8e4m3_f32 c
  rw [exp2_apply, subf_apply, hexp_apply, broadcast_apply]
  exact congrArg (fun e : EReal => Ideal.exp2 (e - logExp (amax (hr x v vs sig sc st en i)))) Ideal.ofBits_zero_f32

end Cert.Proof.QuantRefPay

end
-- ==== Proof.QuantRefValue.lean ====
/-
  Hand-written, untrusted. THE QUANTISING STAGE'S REFERENCE, ITS VALUE at the ideal instance: its one block is the whole of
  each array, and after its run row `i` of each result is a function of row `i` of the activations (`Rows`).
-/
module

public import proofs.«01_k».proof.Proof.Gen.QuantRefIdeal.Frame
public import proofs.«01_k».proof.Proof.QuantRefPay
public import Idealize.ShloMosaic.Lib.Pipeline.Value

@[expose] public section

noncomputable section

namespace Cert.Proof.QuantRefValue

open Idealize.ShloMosaic Idealize.SL.Sem Idealize.ShloMosaic.ValueIdx Cert.QuantRefIdeal
open Cert.QuantRefIdeal.Gen Idealize.ShloMosaic.TcCoe
open Idealize.ShloMosaic.Pipeline (Dat Cfg Window)
open Cert.Proof.Rows Cert.Proof.QuantRefPay

theorem zero2 : (![0, 0] : Fin 2 → Nat) = fun _ => 0 := funext fun a => by fin_cases a <;> rfl
theorem zero3 : (![0, 0, 0] : Fin 3 → Nat) = fun _ => 0 := funext fun a => by fin_cases a <;> rfl

section Out
variable (x0 : Vec Ideal S2560x16384 .bf16) (x1 : Vec Ideal S64x16384 .fp8e4m3) (x2 : Vec Ideal S1x64 .f32)
  (x3 : Vec Ideal S21x64x64 .i8) (x4 : Vec Ideal S21x64x64 .bf16) (x5 x6 : Vec Ideal S21x1x1 .i32)

theorem pay14_eq : k0_pay14 x0 x1 x2 x3 x4 x5 x6 = k0_pay5 x0 x1 x2 := by
  unfold k0_pay14
  rw [View.ld_unit_zero zero2, View.ld_unit_zero zero2, View.ld_unit_zero zero2]
theorem pay15_eq : k0_pay15 x0 x1 x2 x3 x4 x5 x6 = zsA x0 x1 x2 := by
  unfold k0_pay15
  rw [pay14_eq]
theorem pay16_eq : k0_pay16 x0 x1 x2 x3 x4 x5 x6 = haccA x0 x1 x2 x3 x4 x5 x6 := by
  unfold k0_pay16
  rw [pay14_eq, View.ld_unit_zero zero3, View.ld_unit_zero zero3, View.ld_unit_zero zero3, View.ld_unit_zero zero3]

/-- The covering stores leave their payloads, and the loads read whole buffers. -/
theorem out7_apply (i : Fin 2560) (k : Fin 16384) : out0_7 x0 x1 x2 x3 x4 x5 x6 (ix2 i k) = code8 (xr x0 i) k := by
  unfold out0_7
  rw [View.canon_unit_zero zero2, View.ld_unit_zero zero2]
  exact xc_apply x0 i k
theorem out8_apply (i : Fin 2560) : out0_8 x0 x1 x2 x3 x4 x5 x6 (ix2 i 0) = scale8 (xr x0 i) := by
  unfold out0_8
  rw [View.canon_unit_zero zero2, View.ld_unit_zero zero2]
  exact xs_apply x0 i
theorem out9_apply (i : Fin 2560) (c : Fin 64) :
    out0_9 x0 x1 x2 x3 x4 x5 x6 (ix2 i c) = FloatOps.fptosi (F := Ideal) (φ := .f32) 8 (codeI (zr x0 x1 x2 i) c) := by
  unfold out0_9
  rw [View.canon_unit_zero zero2, pay14_eq, ← zq_apply]
  rfl
theorem out10_apply (i : Fin 2560) : out0_10 x0 x1 x2 x3 x4 x5 x6 (ix2 i 0) = scaleI (zr x0 x1 x2 i) := by
  unfold out0_10
  rw [View.canon_unit_zero zero2, pay15_eq]
  exact zs_apply x0 x1 x2 i
theorem out11_apply (i : Fin 2560) (c : Fin 64) :
    out0_11 x0 x1 x2 x3 x4 x5 x6 (ix2 i c) = code8 (hr x0 x1 x2 x3 x4 x5 x6 i) c := by
  unfold out0_11
  rw [View.canon_unit_zero zero2, pay15_eq, pay16_eq]
  exact hc_apply x0 x1 x2 x3 x4 x5 x6 i c
theorem out12_apply (i : Fin 2560) : out0_12 x0 x1 x2 x3 x4 x5 x6 (ix2 i 0) = scale8 (hr x0 x1 x2 x3 x4 x5 x6 i) := by
  unfold out0_12
  rw [View.canon_unit_zero zero2, pay15_eq, pay16_eq]
  exact hs_apply x0 x1 x2 x3 x4 x5 x6 i
end Out

variable (m : (ℓ : Loc nD τ sig) → Buf (Elt Ideal) ℓ) (ρ : Dev nD → PrngReg)

/-! Each window's one block is its whole array. -/

theorem idx0 : ∀ t : Fin cfg0.N, ∀ a, win0_0.index t a = 0 := by decide +kernel
theorem iblk0 (c : Dev nD) (t : Fin cfg0.N) : iblk m c 0 t = V m c main_v10 := by
  funext j; show V m c main_v10 ((win0_0.rect t).emb j) = _
  exact congrArg _ (funext fun a => Fin.ext (win0_0.rect_emb_val_of_index_zero t a (idx0 t a) j))
theorem idx1 : ∀ t : Fin cfg0.N, ∀ a, win0_1.index t a = 0 := by decide +kernel
theorem iblk1 (c : Dev nD) (t : Fin cfg0.N) : iblk m c 1 t = V m c main_arg1 := by
  funext j; show V m c main_arg1 ((win0_1.rect t).emb j) = _
  exact congrArg _ (funext fun a => Fin.ext (win0_1.rect_emb_val_of_index_zero t a (idx1 t a) j))
theorem idx2 : ∀ t : Fin cfg0.N, ∀ a, win0_2.index t a = 0 := by decide +kernel
theorem iblk2 (c : Dev nD) (t : Fin cfg0.N) : iblk m c 2 t = V m c main_v11 := by
  funext j; show V m c main_v11 ((win0_2.rect t).emb j) = _
  exact congrArg _ (funext fun a => Fin.ext (win0_2.rect_emb_val_of_index_zero t a (idx2 t a) j))
theorem idx3 : ∀ t : Fin cfg0.N, ∀ a, win0_3.index t a = 0 := by decide +kernel
theorem iblk3 (c : Dev nD) (t : Fin cfg0.N) : iblk m c 3 t = V m c main_arg3 := by
  funext j; show V m c main_arg3 ((win0_3.rect t).emb j) = _
  exact congrArg _ (funext fun a => Fin.ext (win0_3.rect_emb_val_of_index_zero t a (idx3 t a) j))
theorem idx4 : ∀ t : Fin cfg0.N, ∀ a, win0_4.index t a = 0 := by decide +kernel
theorem iblk4 (c : Dev nD) (t : Fin cfg0.N) : iblk m c 4 t = V m c main_v9 := by
  funext j; show V m c main_v9 ((win0_4.rect t).emb j) = _
  exact congrArg _ (funext fun a => Fin.ext (win0_4.rect_emb_val_of_index_zero t a (idx4 t a) j))
theorem idx5 : ∀ t : Fin cfg0.N, ∀ a, win0_5.index t a = 0 := by decide +kernel
theorem iblk5 (c : Dev nD) (t : Fin cfg0.N) : iblk m c 5 t = V m c main_v4 := by
  funext j; show V m c main_v4 ((win0_5.rect t).emb j) = _
  exact congrArg _ (funext fun a => Fin.ext (win0_5.rect_emb_val_of_index_zero t a (idx5 t a) j))
theorem idx6 : ∀ t : Fin cfg0.N, ∀ a, win0_6.index t a = 0 := by decide +kernel
theorem iblk6 (c : Dev nD) (t : Fin cfg0.N) : iblk m c 6 t = V m c main_v6 := by
  funext j; show V m c main_v6 ((win0_6.rect t).emb j) = _
  exact congrArg _ (funext fun a => Fin.ext (win0_6.rect_emb_val_of_index_zero t a (idx6 t a) j))

/-! What each result array is shown to hold. -/

def G7 (c : Dev nD) : S2560x16384.Idx → EReal := fun i =>
  code8 (xr (V m c main_v10) (i 0)) (i 1)
def G8 (c : Dev nD) : S2560x1.Idx → EReal := fun i =>
  scale8 (xr (V m c main_v10) (i 0))
def G9 (c : Dev nD) : S2560x64.Idx → BitVec 8 := fun i =>
  FloatOps.fptosi (F := Ideal) (φ := .f32) 8 (codeI (zr (V m c main_v10) (V m c main_arg1) (V m c main_v11) (i 0)) (i 1))
def G10 (c : Dev nD) : S2560x1.Idx → EReal := fun i =>
  scaleI (zr (V m c main_v10) (V m c main_arg1) (V m c main_v11) (i 0))
def G11 (c : Dev nD) : S2560x64.Idx → EReal := fun i =>
  code8 (hr (V m c main_v10) (V m c main_arg1) (V m c main_v11) (V m c main_arg3) (V m c main_v9) (V m c main_v4) (V m c main_v6) (i 0)) (i 1)
def G12 (c : Dev nD) : S2560x1.Idx → EReal := fun i =>
  scale8 (hr (V m c main_v10) (V m c main_arg1) (V m c main_v11) (V m c main_arg3) (V m c main_v9) (V m c main_v4) (V m c main_v6) (i 0))

/-! Each result array ends at that. -/

theorem idx7 : ∀ t : Fin cfg0.N, ∀ a, win0_7.index t a = 0 := by decide +kernel
theorem emb7 (t : Fin cfg0.N) (j : S2560x16384.Idx) : (win0_7.rect t).emb j = j :=
  funext fun a => Fin.ext (win0_7.rect_emb_val_of_index_zero t a (idx7 t a) j)
theorem cut7 (t : Fin cfg0.N) (O G : Vec Ideal S2560x16384 .fp8e4m3) (h : ∀ j, O j = G j) :
    (cfg0.win 7).cut (grid0.coords t) O = ((cfg0.win 7).blk t).view.read (Elt Ideal) G := by
  funext (j : S2560x16384.Idx)
  show O j = G ((win0_7.rect t).emb j)
  rw [emb7, h]
theorem flushed7 (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7, iblk0, iblk1, iblk2, iblk3, iblk4, iblk5, iblk6]
  refine cut7 t _ _ fun j => ?_
  obtain ⟨r, k, rfl⟩ : ∃ r k, j = ix2 r k := ⟨j 0, j 1, eq_ix2 j⟩
  exact out7_apply _ _ _ _ _ _ _ r k
theorem cover7 (i : S2560x16384.Idx) : ∃ t : Fin cfg0.N, (cfg0.win 7).flush t = true ∧ i ∈ ((cfg0.win 7).blk t).view.set := by
  have hN : 0 < cfg0.N := by decide +kernel
  refine ⟨⟨0, hN⟩, (by decide +kernel : ∀ t : Fin grid0.N, win0_7.flush t = true) _, ?_⟩
  have h := ((cfg0.win 7).blk ⟨0, hN⟩).view.emb_mem_set i
  have e : ((cfg0.win 7).blk ⟨0, hN⟩).view.emb i = i := emb7 _ i
  rwa [e] at h
theorem final7 (c : Dev nD) : (dats m 0 c).arrAt 7 cfg0.N = G7 m c :=
  (dats m 0 c).arrAt_eq_of_cover 7 (G7 m c) (fun t _ => flushed7 m c t) cover7
theorem idx8 : ∀ t : Fin cfg0.N, ∀ a, win0_8.index t a = 0 := by decide +kernel
theorem emb8 (t : Fin cfg0.N) (j : S2560x1.Idx) : (win0_8.rect t).emb j = j :=
  funext fun a => Fin.ext (win0_8.rect_emb_val_of_index_zero t a (idx8 t a) j)
theorem cut8 (t : Fin cfg0.N) (O G : Vec Ideal S2560x1 .f32) (h : ∀ j, O j = G j) :
    (cfg0.win 8).cut (grid0.coords t) O = ((cfg0.win 8).blk t).view.read (Elt Ideal) G := by
  funext (j : S2560x1.Idx)
  show O j = G ((win0_8.rect t).emb j)
  rw [emb8, h]
theorem flushed8 (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8, iblk0, iblk1, iblk2, iblk3, iblk4, iblk5, iblk6]
  refine cut8 t _ _ fun j => ?_
  obtain ⟨r, k, rfl⟩ : ∃ (r : Fin 2560) (k : Fin 1), j = ix2 r k := ⟨j 0, j 1, eq_ix2 j⟩
  obtain rfl : k = 0 := Subsingleton.elim _ _
  exact out8_apply _ _ _ _ _ _ _ r
theorem cover8 (i : S2560x1.Idx) : ∃ t : Fin cfg0.N, (cfg0.win 8).flush t = true ∧ i ∈ ((cfg0.win 8).blk t).view.set := by
  have hN : 0 < cfg0.N := by decide +kernel
  refine ⟨⟨0, hN⟩, (by decide +kernel : ∀ t : Fin grid0.N, win0_8.flush t = true) _, ?_⟩
  have h := ((cfg0.win 8).blk ⟨0, hN⟩).view.emb_mem_set i
  have e : ((cfg0.win 8).blk ⟨0, hN⟩).view.emb i = i := emb8 _ i
  rwa [e] at h
theorem final8 (c : Dev nD) : (dats m 0 c).arrAt 8 cfg0.N = G8 m c :=
  (dats m 0 c).arrAt_eq_of_cover 8 (G8 m c) (fun t _ => flushed8 m c t) cover8
theorem idx9 : ∀ t : Fin cfg0.N, ∀ a, win0_9.index t a = 0 := by decide +kernel
theorem emb9 (t : Fin cfg0.N) (j : S2560x64.Idx) : (win0_9.rect t).emb j = j :=
  funext fun a => Fin.ext (win0_9.rect_emb_val_of_index_zero t a (idx9 t a) j)
theorem cut9 (t : Fin cfg0.N) (O G : Vec Ideal S2560x64 .i8) (h : ∀ j, O j = G j) :
    (cfg0.win 9).cut (grid0.coords t) O = ((cfg0.win 9).blk t).view.read (Elt Ideal) G := by
  funext (j : S2560x64.Idx)
  show O j = G ((win0_9.rect t).emb j)
  rw [emb9, h]
theorem flushed9 (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9, iblk0, iblk1, iblk2, iblk3, iblk4, iblk5, iblk6]
  refine cut9 t _ _ fun j => ?_
  obtain ⟨r, k, rfl⟩ : ∃ r k, j = ix2 r k := ⟨j 0, j 1, eq_ix2 j⟩
  exact out9_apply _ _ _ _ _ _ _ r k
theorem cover9 (i : S2560x64.Idx) : ∃ t : Fin cfg0.N, (cfg0.win 9).flush t = true ∧ i ∈ ((cfg0.win 9).blk t).view.set := by
  have hN : 0 < cfg0.N := by decide +kernel
  refine ⟨⟨0, hN⟩, (by decide +kernel : ∀ t : Fin grid0.N, win0_9.flush t = true) _, ?_⟩
  have h := ((cfg0.win 9).blk ⟨0, hN⟩).view.emb_mem_set i
  have e : ((cfg0.win 9).blk ⟨0, hN⟩).view.emb i = i := emb9 _ i
  rwa [e] at h
theorem final9 (c : Dev nD) : (dats m 0 c).arrAt 9 cfg0.N = G9 m c :=
  (dats m 0 c).arrAt_eq_of_cover 9 (G9 m c) (fun t _ => flushed9 m c t) cover9
theorem idx10 : ∀ t : Fin cfg0.N, ∀ a, win0_10.index t a = 0 := by decide +kernel
theorem emb10 (t : Fin cfg0.N) (j : S2560x1.Idx) : (win0_10.rect t).emb j = j :=
  funext fun a => Fin.ext (win0_10.rect_emb_val_of_index_zero t a (idx10 t a) j)
theorem cut10 (t : Fin cfg0.N) (O G : Vec Ideal S2560x1 .f32) (h : ∀ j, O j = G j) :
    (cfg0.win 10).cut (grid0.coords t) O = ((cfg0.win 10).blk t).view.read (Elt Ideal) G := by
  funext (j : S2560x1.Idx)
  show O j = G ((win0_10.rect t).emb j)
  rw [emb10, h]
theorem flushed10 (c : Dev nD) (t : Fin cfg0.N) :
    (dats m 0 c).flushed 10 t = ((cfg0.win 10).blk t).view.read (Elt Ideal) (G10 m c) := by
  show (cfg0.win 10).cut (grid0.coords t) ((dats m 0 c).after 10 t) = _
  rw [after0_10, iblk0, iblk1, iblk2, iblk3, iblk4, iblk5, iblk6]
  refine cut10 t _ _ fun j => ?_
  obtain ⟨r, k, rfl⟩ : ∃ (r : Fin 2560) (k : Fin 1), j = ix2 r k := ⟨j 0, j 1, eq_ix2 j⟩
  obtain rfl : k = 0 := Subsingleton.elim _ _
  exact out10_apply _ _ _ _ _ _ _ r
theorem cover10 (i : S2560x1.Idx) : ∃ t : Fin cfg0.N, (cfg0.win 10).flush t = true ∧ i ∈ ((cfg0.win 10).blk t).view.set := by
  have hN : 0 < cfg0.N := by decide +kernel
  refine ⟨⟨0, hN⟩, (by decide +kernel : ∀ t : Fin grid0.N, win0_10.flush t = true) _, ?_⟩
  have h := ((cfg0.win 10).blk ⟨0, hN⟩).view.emb_mem_set i
  have e : ((cfg0.win 10).blk ⟨0, hN⟩).view.emb i = i := emb10 _ i
  rwa [e] at h
theorem final10 (c : Dev nD) : (dats m 0 c).arrAt 10 cfg0.N = G10 m c :=
  (dats m 0 c).arrAt_eq_of_cover 10 (G10 m c) (fun t _ => flushed10 m c t) cover10
theorem idx11 : ∀ t : Fin cfg0.N, ∀ a, win0_11.index t a = 0 := by decide +kernel
theorem emb11 (t : Fin cfg0.N) (j : S2560x64.Idx) : (win0_11.rect t).emb j = j :=
  funext fun a => Fin.ext (win0_11.rect_emb_val_of_index_zero t a (idx11 t a) j)
theorem cut11 (t : Fin cfg0.N) (O G : Vec Ideal S2560x64 .fp8e4m3) (h : ∀ j, O j = G j) :
    (cfg0.win 11).cut (grid0.coords t) O = ((cfg0.win 11).blk t).view.read (Elt Ideal) G := by
  funext (j : S2560x64.Idx)
  show O j = G ((win0_11.rect t).emb j)
  rw [emb11, h]
theorem flushed11 (c : Dev nD) (t : Fin cfg0.N) :
    (dats m 0 c).flushed 11 t = ((cfg0.win 11).blk t).view.read (Elt Ideal) (G11 m c) := by
  show (cfg0.win 11).cut (grid0.coords t) ((dats m 0 c).after 11 t) = _
  rw [after0_11, iblk0, iblk1, iblk2, iblk3, iblk4, iblk5, iblk6]
  refine cut11 t _ _ fun j => ?_
  obtain ⟨r, k, rfl⟩ : ∃ r k, j = ix2 r k := ⟨j 0, j 1, eq_ix2 j⟩
  exact out11_apply _ _ _ _ _ _ _ r k
theorem cover11 (i : S2560x64.Idx) : ∃ t : Fin cfg0.N, (cfg0.win 11).flush t = true ∧ i ∈ ((cfg0.win 11).blk t).view.set := by
  have hN : 0 < cfg0.N := by decide +kernel
  refine ⟨⟨0, hN⟩, (by decide +kernel : ∀ t : Fin grid0.N, win0_11.flush t = true) _, ?_⟩
  have h := ((cfg0.win 11).blk ⟨0, hN⟩).view.emb_mem_set i
  have e : ((cfg0.win 11).blk ⟨0, hN⟩).view.emb i = i := emb11 _ i
  rwa [e] at h
theorem final11 (c : Dev nD) : (dats m 0 c).arrAt 11 cfg0.N = G11 m c :=
  (dats m 0 c).arrAt_eq_of_cover 11 (G11 m c) (fun t _ => flushed11 m c t) cover11
theorem idx12 : ∀ t : Fin cfg0.N, ∀ a, win0_12.index t a = 0 := by decide +kernel
theorem emb12 (t : Fin cfg0.N) (j : S2560x1.Idx) : (win0_12.rect t).emb j = j :=
  funext fun a => Fin.ext (win0_12.rect_emb_val_of_index_zero t a (idx12 t a) j)
theorem cut12 (t : Fin cfg0.N) (O G : Vec Ideal S2560x1 .f32) (h : ∀ j, O j = G j) :
    (cfg0.win 12).cut (grid0.coords t) O = ((cfg0.win 12).blk t).view.read (Elt Ideal) G := by
  funext (j : S2560x1.Idx)
  show O j = G ((win0_12.rect t).emb j)
  rw [emb12, h]
theorem flushed12 (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12, iblk0, iblk1, iblk2, iblk3, iblk4, iblk5, iblk6]
  refine cut12 t _ _ fun j => ?_
  obtain ⟨r, k, rfl⟩ : ∃ (r : Fin 2560) (k : Fin 1), j = ix2 r k := ⟨j 0, j 1, eq_ix2 j⟩
  obtain rfl : k = 0 := Subsingleton.elim _ _
  exact out12_apply _ _ _ _ _ _ _ r
theorem cover12 (i : S2560x1.Idx) : ∃ t : Fin cfg0.N, (cfg0.win 12).flush t = true ∧ i ∈ ((cfg0.win 12).blk t).view.set := by
  have hN : 0 < cfg0.N := by decide +kernel
  refine ⟨⟨0, hN⟩, (by decide +kernel : ∀ t : Fin grid0.N, win0_12.flush t = true) _, ?_⟩
  have h := ((cfg0.win 12).blk ⟨0, hN⟩).view.emb_mem_set i
  have e : ((cfg0.win 12).blk ⟨0, hN⟩).view.emb i = i := emb12 _ i
  rwa [e] at h
theorem final12 (c : Dev nD) : (dats m 0 c).arrAt 12 cfg0.N = G12 m c :=
  (dats m 0 c).arrAt_eq_of_cover 12 (G12 m c) (fun t _ => flushed12 m c t) cover12

end Cert.Proof.QuantRefValue

end
-- ==== Proof.QuantHost.lean ====
/-
  Hand-written, untrusted. The arrays that the quantising programs' calls find, as functions of the arguments: the host lines
  flatten the batch of activations, add up the tenants' sizes to bounds, and repeat the scales of the tenants' matrices. The
  kernel's host lines stack the tenants' matrices and pad the stack.
-/
module

public import proofs.«01_k».proof.Proof.QuantValue
public import proofs.«01_k».proof.Proof.QuantRefValue
public import Idealize.ShloMosaic.Lib.KernelVsHost

@[expose] public section

noncomputable section

namespace Cert.Proof.QuantHost

open Idealize.ShloMosaic Idealize.ShloMosaic.ValueIdx Idealize.ShloMosaic.TcCoe
open Cert.Proof.Rows Cert.Proof.RowOps

section Functions
open Cert.QuantIdeal Cert.QuantIdeal.Gen

/-- The running sums of the tenants' sizes. -/
def sums (n : IVec S21 32) : IVec S21 32 :=
  Host.reduceWindow IntOp.addi ![21] ![1] ![20] ![0] n (broadcastInDim S_ ![] bcast_S_S_ (constantI S_ 32 0#32))
    reduceWindows_S21_S21_w21s1p20_0 h_S_

/-- Zero, then those sums. -/
def after0 (s : IVec S21 32) : IVec S22 32 :=
  concatenate S22 0 [⟨S1, broadcastInDim S1 ![] bcast_S_S1 (constantI S_ 32 0#32)⟩, ⟨S21, s⟩] concatenates_S1_S21_S22_d0

/-- The tenants' bounds. -/
def bounds (n : IVec S21 32) : IVec S22 32 := after0 (sums n)

/-- The scales of the tenants' matrices, each group's repeated over its rows. -/
def scales (s : FVec Ideal S21x2x64 .f32) : FVec Ideal S21x64x64 .bf16 :=
  truncf .bf16 (shapeCast S21x64x64 (broadcastInDim S21x2x32x64 ![0, 1, 3] bcast_S21x2x64_S21x2x32x64_0_1_3 s)
    shapeCasts_S21x2x32x64_S21x64x64) bitsLt_bf16_f32

/-- The tenants' matrices stacked and padded below. -/
def stack {α : Type} (x : S21x64x64.Idx → α) (z : S_.Idx → α) : S1536x64.Idx → α :=
  pad S1536x64 ![0, 0] ![192, 0] ![0, 0] (shapeCast S1344x64 x shapeCasts_S21x64x64_S1344x64) z
    pads_S1344x64_S1536x64_01920_000 h_S_

/-- Row `k` of tenant `g`'s matrix, in the stack. -/
theorem stack_apply {α : Type} (x : S21x64x64.Idx → α) (z : S_.Idx → α) (g : Fin 21) (k c : Fin 64) :
    stack x z (ix2 (Cert.Proof.QuantPay.pos g k) c) = x (ix3 g k c) := by
  have hg := g.isLt
  have hk := k.isLt
  unfold stack
  rw [pad_apply_of_inside _ _ _ _ z _ h_S_ _ (ix2 (⟨k.val + 64 * g.val, by omega⟩ : Fin 1344) c) fun a => by
    match a with
    | ⟨0, _⟩ => show k.val + 64 * g.val = 0 + (k.val + 64 * g.val) * (0 + 1); omega
    | ⟨1, _⟩ => show c.val = 0 + c.val * (0 + 1); omega]
  exact shapeCast_apply x _ _ _ (by rw [rowMajor_ix3, rowMajor_ix2]; show _ = (k.val + 64 * g.val) * 64 + c.val; ring)

end Functions

section Kernel
open Cert.QuantIdeal Cert.QuantIdeal.Gen
variable (m : (ℓ : Loc nD τ sig) → Buf (Elt Ideal) ℓ) (c : Dev nD)

theorem V_v2 : V m c main_v2 = bounds (m ((c : Thread nD τ).loc main_arg5)) := by
  show StableHlo.after (List.flatten [hostOps0, hostOps0_1, hostOps0_2, hostOps0_3, hostOps0_4, hostOps0_5, hostOps0_6]) _ (Proc.devRef .tc main_v2) = _
  simp only [hostOps0, hostOps0_1, hostOps0_2, hostOps0_3, hostOps0_4, hostOps0_5, hostOps0_6, List.flatten_cons, List.flatten_nil, List.append_nil, List.cons_append, List.nil_append]
  after_results
  refine congrArg after0 (?_ : _ = sums _)
  unfold sums
  simp only [StableHlo.TRef.toBuf, StableHlo.TRef.ofBuf, cast_cast, cast_eq]
theorem V_v8 : ∃ z, V m c main_v8 = stack (m ((c : Thread nD τ).loc main_arg3)) z := by
  refine ⟨trunci 8 (constantI S_ 32 0#32) natLt_8_32, ?_⟩
  show StableHlo.after (List.flatten [hostOps0, hostOps0_1, hostOps0_2, hostOps0_3, hostOps0_4, hostOps0_5, hostOps0_6]) _ (Proc.devRef .tc main_v8) = _
  simp only [hostOps0, hostOps0_1, hostOps0_2, hostOps0_3, hostOps0_4, hostOps0_5, hostOps0_6, List.flatten_cons, List.flatten_nil, List.append_nil, List.cons_append, List.nil_append]
  after_results
  rfl
theorem V_v9 : ∃ z, V m c main_v9 = stack (scales (m ((c : Thread nD τ).loc main_arg4))) z := by
  refine ⟨sitofp (F := Ideal) .bf16 (constantI S_ 32 0#32), ?_⟩
  show StableHlo.after (List.flatten [hostOps0, hostOps0_1, hostOps0_2, hostOps0_3, hostOps0_4, hostOps0_5, hostOps0_6]) _ (Proc.devRef .tc main_v9) = _
  simp only [hostOps0, hostOps0_1, hostOps0_2, hostOps0_3, hostOps0_4, hostOps0_5, hostOps0_6, List.flatten_cons, List.flatten_nil, List.append_nil, List.cons_append, List.nil_append]
  after_results
  rfl
theorem V_v10 : V m c main_v10 = shapeCast S2560x16384 (m ((c : Thread nD τ).loc main_arg0)) shapeCasts_S2x1280x16384_S2560x16384 := by
  show StableHlo.after (List.flatten [hostOps0, hostOps0_1, hostOps0_2, hostOps0_3, hostOps0_4, hostOps0_5, hostOps0_6]) _ (Proc.devRef .tc main_v10) = _
  simp only [hostOps0, hostOps0_1, hostOps0_2, hostOps0_3, hostOps0_4, hostOps0_5, hostOps0_6, List.flatten_cons, List.flatten_nil, List.append_nil, List.cons_append, List.nil_append]
  after_results
  rfl
theorem V_v11 : V m c main_v11 = shapeCast S1x64 (m ((c : Thread nD τ).loc main_arg2)) shapeCasts_S64_S1x64 := by
  show StableHlo.after (List.flatten [hostOps0, hostOps0_1, hostOps0_2, hostOps0_3, hostOps0_4, hostOps0_5, hostOps0_6]) _ (Proc.devRef .tc main_v11) = _
  simp only [hostOps0, hostOps0_1, hostOps0_2, hostOps0_3, hostOps0_4, hostOps0_5, hostOps0_6, List.flatten_cons, List.flatten_nil, List.append_nil, List.cons_append, List.nil_append]
  after_results
  rfl

/-- Tenant `g`'s matrix, as the kernel's call finds it. -/
theorem wm_eq : Cert.Proof.QuantPay.wm (V m c main_v8) (V m c main_v9)
    = Cert.Proof.QuantRefPay.wm (m ((c : Thread nD τ).loc main_arg3)) (scales (m ((c : Thread nD τ).loc main_arg4))) := by
  obtain ⟨z, h⟩ := V_v8 m c
  obtain ⟨z', h'⟩ := V_v9 m c
  funext g k j
  unfold Cert.Proof.QuantPay.wm Cert.Proof.QuantRefPay.wm
  rw [h, h', stack_apply, stack_apply]

end Kernel

section Reference
open Cert.QuantRefIdeal Cert.QuantRefIdeal.Gen
variable (m : (ℓ : Loc nD τ sig) → Buf (Elt Ideal) ℓ) (c : Dev nD)

/-- The bounds from the `n`th on, one to a tenant. -/
theorem starts_apply (b : IVec S22 32) (g : Fin 21) :
    shapeCast S21x1x1 (extractStridedSlice S21 ![0] b slices_S22_S21_0) shapeCasts_S21_S21x1x1 (ix3 g 0 0) = b (ix1 (Fin.ofNat 22 g.val)) := by
  have hg := g.isLt
  rw [shapeCast_apply _ _ (ix3 g 0 0) (ix1 g) (by rw [rowMajor_ix3, rowMajor_ix1]; simp)]
  refine extractStridedSlice_apply ![0] b slices_S22_S21_0 (ix1 g) _ fun a => ?_
  match a with
  | ⟨0, _⟩ => show g.val % 22 = 0 + g.val; omega
theorem ends_apply (b : IVec S22 32) (g : Fin 21) :
    shapeCast S21x1x1 (extractStridedSlice S21 ![1] b slices_S22_S21_1) shapeCasts_S21_S21x1x1 (ix3 g 0 0) = b (ix1 (Fin.ofNat 22 (g.val + 1))) := by
  have hg := g.isLt
  rw [shapeCast_apply _ _ (ix3 g 0 0) (ix1 g) (by rw [rowMajor_ix3, rowMajor_ix1]; simp)]
  refine extractStridedSlice_apply ![1] b slices_S22_S21_1 (ix1 g) _ fun a => ?_
  match a with
  | ⟨0, _⟩ => show (g.val + 1) % 22 = 1 + g.val; omega

theorem V_v4' : V m c main_v4 = shapeCast S21x1x1 (extractStridedSlice S21 ![0] (bounds (m ((c : Thread nD τ).loc main_arg5))) slices_S22_S21_0) shapeCasts_S21_S21x1x1 := by
  show StableHlo.after (List.flatten [hostOps0, hostOps0_1, hostOps0_2]) _ (Proc.devRef .tc main_v4) = _
  simp only [hostOps0, hostOps0_1, hostOps0_2, List.flatten_cons, List.flatten_nil, List.append_nil, List.cons_append, List.nil_append]
  after_results
  refine congrArg (fun s : IVec S21 32 => shapeCast S21x1x1 (extractStridedSlice S21 ![0] (after0 s) slices_S22_S21_0) shapeCasts_S21_S21x1x1) (?_ : _ = sums _)
  unfold sums
  simp only [StableHlo.TRef.toBuf, StableHlo.TRef.ofBuf, cast_cast, cast_eq]
theorem V_v6' : V m c main_v6 = shapeCast S21x1x1 (extractStridedSlice S21 ![1] (bounds (m ((c : Thread nD τ).loc main_arg5))) slices_S22_S21_1) shapeCasts_S21_S21x1x1 := by
  show StableHlo.after (List.flatten [hostOps0, hostOps0_1, hostOps0_2]) _ (Proc.devRef .tc main_v6) = _
  simp only [hostOps0, hostOps0_1, hostOps0_2, List.flatten_cons, List.flatten_nil, List.append_nil, List.cons_append, List.nil_append]
  after_results
  refine congrArg (fun s : IVec S21 32 => shapeCast S21x1x1 (extractStridedSlice S21 ![1] (after0 s) slices_S22_S21_1) shapeCasts_S21_S21x1x1) (?_ : _ = sums _)
  unfold sums
  simp only [StableHlo.TRef.toBuf, StableHlo.TRef.ofBuf, cast_cast, cast_eq]
theorem V_v9' : V m c main_v9 = scales (m ((c : Thread nD τ).loc main_arg4)) := by
  show StableHlo.after (List.flatten [hostOps0, hostOps0_1, hostOps0_2]) _ (Proc.devRef .tc main_v9) = _
  simp only [hostOps0, hostOps0_1, hostOps0_2, List.flatten_cons, List.flatten_nil, List.append_nil, List.cons_append, List.nil_append]
  after_results
  rfl
theorem V_v10' : V m c main_v10 = shapeCast S2560x16384 (m ((c : Thread nD τ).loc main_arg0)) shapeCasts_S2x1280x16384_S2560x16384 := by
  show StableHlo.after (List.flatten [hostOps0, hostOps0_1, hostOps0_2]) _ (Proc.devRef .tc main_v10) = _
  simp only [hostOps0, hostOps0_1, hostOps0_2, List.flatten_cons, List.flatten_nil, List.append_nil, List.cons_append, List.nil_append]
  after_results
  rfl
theorem V_v11' : V m c main_v11 = shapeCast S1x64 (m ((c : Thread nD τ).loc main_arg2)) shapeCasts_S64_S1x64 := by
  show StableHlo.after (List.flatten [hostOps0, hostOps0_1, hostOps0_2]) _ (Proc.devRef .tc main_v11) = _
  simp only [hostOps0, hostOps0_1, hostOps0_2, List.flatten_cons, List.flatten_nil, List.append_nil, List.cons_append, List.nil_append]
  after_results
  rfl

end Reference

end Cert.Proof.QuantHost

end
-- ==== Proof.QuantClaim.lean ====
/-
  Hand-written, untrusted. The value claim of the quantising stage: the kernel and the reference end at the same codes and
  scales, since their calls find the same rows, bounds and tenants' matrices.
-/
module

public import proofs.«01_k».proof.Proof.QuantHost
public import proofs.«01_k».proof.Defs

@[expose] public section

noncomputable section

namespace Cert.Proof.QuantClaim

open Idealize.ShloMosaic Idealize.ShloMosaic.ValueIdx Idealize.ShloMosaic.TcCoe Idealize.SL.Sem
open Cert.Proof.Rows Cert.Proof.QuantHost

variable (m : (ℓ : Loc Cert.QuantIdeal.nD Cert.QuantIdeal.τ Cert.QuantIdeal.sig) → Buf (Elt Ideal) ℓ)
  (m' : (ℓ : Loc Cert.QuantRefIdeal.nD Cert.QuantRefIdeal.τ Cert.QuantRefIdeal.sig) → Buf (Elt Ideal) ℓ)
  (c : Dev Cert.QuantIdeal.nD)

/-- The two programs are given the same arguments. -/
def Agree : Prop :=
  m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)
  ∧ m' ((c.tc : Thread Cert.QuantRefIdeal.nD Cert.QuantRefIdeal.τ).loc Cert.QuantRefIdeal.main_arg1) = m ((c.tc : Thread Cert.QuantIdeal.nD Cert.QuantIdeal.τ).loc Cert.QuantIdeal.main_arg1)
  ∧ m' ((c.tc : Thread Cert.QuantRefIdeal.nD Cert.QuantRefIdeal.τ).loc Cert.QuantRefIdeal.main_arg2) = m ((c.tc : Thread Cert.QuantIdeal.nD Cert.QuantIdeal.τ).loc Cert.QuantIdeal.main_arg2)
  ∧ m' ((c.tc : Thread Cert.QuantRefIdeal.nD Cert.QuantRefIdeal.τ).loc Cert.QuantRefIdeal.main_arg3) = m ((c.tc : Thread Cert.QuantIdeal.nD Cert.QuantIdeal.τ).loc Cert.QuantIdeal.main_arg3)
  ∧ m' ((c.tc : Thread Cert.QuantRefIdeal.nD Cert.QuantRefIdeal.τ).loc Cert.QuantRefIdeal.main_arg4) = m ((c.tc : Thread Cert.QuantIdeal.nD Cert.QuantIdeal.τ).loc Cert.QuantIdeal.main_arg4)
  ∧ m' ((c.tc : Thread Cert.QuantRefIdeal.nD Cert.QuantRefIdeal.τ).loc Cert.QuantRefIdeal.main_arg5) = m ((c.tc : Thread Cert.QuantIdeal.nD Cert.QuantIdeal.τ).loc Cert.QuantIdeal.main_arg5)

/-- The call's row of activations in the reference. -/
abbrev xR := Cert.Proof.QuantRefPay.xr (Cert.QuantRefIdeal.Gen.V m' c Cert.QuantRefIdeal.main_v10)
/-- The row of the projection in the reference. -/
abbrev zR := Cert.Proof.QuantRefPay.zr (Cert.QuantRefIdeal.Gen.V m' c Cert.QuantRefIdeal.main_v10)
  (Cert.QuantRefIdeal.Gen.V m' c Cert.QuantRefIdeal.main_arg1) (Cert.QuantRefIdeal.Gen.V m' c Cert.QuantRefIdeal.main_v11)
/-- The row of the tenants' products in the reference. -/
abbrev hR := Cert.Proof.QuantRefPay.hr (Cert.QuantRefIdeal.Gen.V m' c Cert.QuantRefIdeal.main_v10)
  (Cert.QuantRefIdeal.Gen.V m' c Cert.QuantRefIdeal.main_arg1) (Cert.QuantRefIdeal.Gen.V m' c Cert.QuantRefIdeal.main_v11)
  (Cert.QuantRefIdeal.Gen.V m' c Cert.QuantRefIdeal.main_arg3) (Cert.QuantRefIdeal.Gen.V m' c Cert.QuantRefIdeal.main_v9)
  (Cert.QuantRefIdeal.Gen.V m' c Cert.QuantRefIdeal.main_v4) (Cert.QuantRefIdeal.Gen.V m' c Cert.QuantRefIdeal.main_v6)

variable {m m' c}

theorem x_eq (h : Agree m m' c) : xR m' c = Cert.Proof.QuantValue.xg m c := by
  have e : Cert.QuantRefIdeal.Gen.V m' c Cert.QuantRefIdeal.main_v10 = Cert.QuantIdeal.Gen.V m c Cert.QuantIdeal.main_v10 :=
    (V_v10' m' c).trans ((congrArg (fun x => shapeCast Cert.QuantIdeal.S2560x16384 x Cert.QuantIdeal.Facts₀.shapeCasts_S2x1280x16384_S2560x16384) h.1).trans (V_v10 m c).symm)
  funext i k
  exact congrFun e (ix2 i k)

theorem z_eq (h : Agree m m' c) : zR m' c = Cert.Proof.QuantValue.zg m c := by
  have e1 : Cert.QuantRefIdeal.Gen.V m' c Cert.QuantRefIdeal.main_arg1 = Cert.QuantIdeal.Gen.V m c Cert.QuantIdeal.main_arg1 :=
    (Cert.QuantRefIdeal.Gen.V_main_arg1 m' c).trans (h.2.1.trans (Cert.QuantIdeal.Gen.V_main_arg1 m c).symm)
  have e2 : Cert.QuantRefIdeal.Gen.V m' c Cert.QuantRefIdeal.main_v11 = Cert.QuantIdeal.Gen.V m c Cert.QuantIdeal.main_v11 :=
    (V_v11' m' c).trans ((congrArg (fun x => shapeCast Cert.QuantIdeal.S1x64 x Cert.QuantIdeal.Facts₀.shapeCasts_S64_S1x64) h.2.2.1).trans (V_v11 m c).symm)
  have ev : (fun (c' : Fin 64) (k : Fin 16384) => Cert.QuantRefIdeal.Gen.V m' c Cert.QuantRefIdeal.main_arg1 (ix2 c' k))
      = fun (c' : Fin 64) (k : Fin 16384) => Cert.QuantIdeal.Gen.V m c Cert.QuantIdeal.main_arg1 (ix2 c' k) :=
    funext fun c' => funext fun k => congrFun e1 (ix2 c' k)
  have es : (fun c' : Fin 64 => Cert.QuantRefIdeal.Gen.V m' c Cert.QuantRefIdeal.main_v11 (ix2 0 c'))
      = fun c' : Fin 64 => Cert.QuantIdeal.Gen.V m c Cert.QuantIdeal.main_v11 (ix2 0 c') :=
    funext fun c' => congrFun e2 (ix2 0 c')
  funext i j
  have ex := congrFun (x_eq h) i
  unfold Cert.Proof.QuantValue.zg zR Cert.Proof.QuantRefPay.zr
  exact congrFun (congr (congr (congrArg zrow ex) ev) es) j

/-- Both programs give tenant `g` the same rows. -/
theorem own_eq (h : Agree m m' c) (i : Fin 2560) (g : Fin 21) :
    inRows (BitVec.ofNat 32 i.val) (Cert.QuantRefIdeal.Gen.V m' c Cert.QuantRefIdeal.main_v4 (ix3 g 0 0))
        (Cert.QuantRefIdeal.Gen.V m' c Cert.QuantRefIdeal.main_v6 (ix3 g 0 0))
      = inRows (BitVec.ofNat 32 i.val) (Cert.Proof.QuantBody.tw (c := c) (Cert.QuantIdeal.Gen.tbl m 0) g.val)
        (Cert.Proof.QuantBody.tw (c := c) (Cert.QuantIdeal.Gen.tbl m 0) (g.val + 1)) := by
  have hb : Cert.QuantIdeal.Gen.tbl m 0 = bounds (m ((c.tc : Thread Cert.QuantIdeal.nD Cert.QuantIdeal.τ).loc Cert.QuantIdeal.main_arg5)) := by
    obtain rfl : c = 0 := Subsingleton.elim _ _
    exact V_v2 m 0
  have h5 := h.2.2.2.2.2
  have e1 : Cert.QuantRefIdeal.Gen.V m' c Cert.QuantRefIdeal.main_v4 (ix3 g 0 0)
      = Cert.Proof.QuantBody.tw (c := c) (Cert.QuantIdeal.Gen.tbl m 0) g.val := by
    refine (congrFun (V_v4' m' c) (ix3 g 0 0)).trans ((starts_apply _ g).trans ?_)
    unfold Cert.Proof.QuantBody.tw
    exact congrFun ((congrArg bounds h5).trans hb.symm) _
  have e2 : Cert.QuantRefIdeal.Gen.V m' c Cert.QuantRefIdeal.main_v6 (ix3 g 0 0)
      = Cert.Proof.QuantBody.tw (c := c) (Cert.QuantIdeal.Gen.tbl m 0) (g.val + 1) := by
    refine (congrFun (V_v6' m' c) (ix3 g 0 0)).trans ((ends_apply _ g).trans ?_)
    unfold Cert.Proof.QuantBody.tw
    exact congrFun ((congrArg bounds h5).trans hb.symm) _
  exact congr (congrArg (inRows (BitVec.ofNat 32 i.val)) e1) e2

theorem h_eq (h : Agree m m' c) : hR m' c = Cert.Proof.QuantValue.hg m c := by
  have ew : Cert.Proof.QuantRefPay.wm (Cert.QuantRefIdeal.Gen.V m' c Cert.QuantRefIdeal.main_arg3) (Cert.QuantRefIdeal.Gen.V m' c Cert.QuantRefIdeal.main_v9)
      = Cert.Proof.QuantPay.wm (Cert.QuantIdeal.Gen.V m c Cert.QuantIdeal.main_v8) (Cert.QuantIdeal.Gen.V m c Cert.QuantIdeal.main_v9) :=
    (congr (congrArg Cert.Proof.QuantRefPay.wm ((Cert.QuantRefIdeal.Gen.V_main_arg3 m' c).trans h.2.2.2.1))
      ((V_v9' m' c).trans (congrArg scales h.2.2.2.2.1))).trans (wm_eq m c).symm
  funext i j
  have ez := congrFun (z_eq h) i
  unfold Cert.Proof.QuantValue.hg hR Cert.Proof.QuantRefPay.hr
  exact congrFun (congr (congr (congrArg hrow (funext fun g => own_eq h i g)) ez) ew) j

theorem G5_eq (h : Agree m m' c) : Cert.Proof.QuantRefValue.G7 m' c = Cert.Proof.QuantValue.G5 m c := by
  unfold Cert.Proof.QuantRefValue.G7 Cert.Proof.QuantValue.G5
  exact congrArg (fun (f : Fin 2560 → Fin 16384 → EReal) (i : Cert.QuantIdeal.S2560x16384.Idx) => code8 (f (i 0)) (i 1)) (x_eq h)
theorem G6_eq (h : Agree m m' c) : Cert.Proof.QuantRefValue.G8 m' c = Cert.Proof.QuantValue.G6 m c := by
  unfold Cert.Proof.QuantRefValue.G8 Cert.Proof.QuantValue.G6
  exact congrArg (fun (f : Fin 2560 → Fin 16384 → EReal) (i : Cert.QuantIdeal.S2560x1.Idx) => scale8 (f (i 0))) (x_eq h)
theorem G7_eq (h : Agree m m' c) : Cert.Proof.QuantRefValue.G9 m' c = Cert.Proof.QuantValue.G7 m c := by
  unfold Cert.Proof.QuantRefValue.G9 Cert.Proof.QuantValue.G7
  exact congrArg (fun (f : Fin 2560 → Fin 64 → EReal) (i : Cert.QuantIdeal.S2560x64.Idx) => FloatOps.fptosi (F := Ideal) (φ := .f32) 8 (codeI (f (i 0)) (i 1))) (z_eq h)
theorem G8_eq (h : Agree m m' c) : Cert.Proof.QuantRefValue.G10 m' c = Cert.Proof.QuantValue.G8 m c := by
  unfold Cert.Proof.QuantRefValue.G10 Cert.Proof.QuantValue.G8
  exact congrArg (fun (f : Fin 2560 → Fin 64 → EReal) (i : Cert.QuantIdeal.S2560x1.Idx) => scaleI (f (i 0))) (z_eq h)
theorem G9_eq (h : Agree m m' c) : Cert.Proof.QuantRefValue.G11 m' c = Cert.Proof.QuantValue.G9 m c := by
  unfold Cert.Proof.QuantRefValue.G11 Cert.Proof.QuantValue.G9
  exact congrArg (fun (f : Fin 2560 → Fin 64 → EReal) (i : Cert.QuantIdeal.S2560x64.Idx) => code8 (f (i 0)) (i 1)) (h_eq h)
theorem G10_eq (h : Agree m m' c) : Cert.Proof.QuantRefValue.G12 m' c = Cert.Proof.QuantValue.G10 m c := by
  unfold Cert.Proof.QuantRefValue.G12 Cert.Proof.QuantValue.G10
  exact congrArg (fun (f : Fin 2560 → Fin 64 → EReal) (i : Cert.QuantIdeal.S2560x1.Idx) => scale8 (f (i 0))) (h_eq h)

/-- `Cert.algebraic_QuantIdeal_QuantRefIdeal`: the six result arrays end at the same functions of the arguments. -/
theorem algebraic : Cert.algebraic_QuantIdeal_QuantRefIdeal := by
  intro m ρ m' ρ' _ hagree
  refine ⟨fun c => Cert.Proof.QuantValue.G5 m c, fun c => Cert.Proof.QuantValue.G6 m c, fun c => Cert.Proof.QuantValue.G7 m c,
    fun c => Cert.Proof.QuantValue.G8 m c, fun c => Cert.Proof.QuantValue.G9 m c, fun c => Cert.Proof.QuantValue.G10 m c, ?_, ?_⟩
  · refine (θ_run Cert.QuantIdeal.defs _ _).mono (fun _ h c => ?_)
      (θ_run_and (Cert.QuantIdeal.Gen.run_main m ρ trivial) (Cert.QuantIdeal.Gen.unchanged m ρ trivial))
    exact ⟨((h.1 c).1 5).trans (Cert.Proof.QuantValue.final5 m trivial c), ((h.1 c).1 6).trans (Cert.Proof.QuantValue.final6 m trivial c),
      ((h.1 c).1 7).trans (Cert.Proof.QuantValue.final7 m trivial c), ((h.1 c).1 8).trans (Cert.Proof.QuantValue.final8 m trivial c),
      ((h.1 c).1 9).trans (Cert.Proof.QuantValue.final9 m trivial c), ((h.1 c).1 10).trans (Cert.Proof.QuantValue.final10 m trivial c), h.2 c⟩
  · refine (θ_run Cert.QuantRefIdeal.defs _ _).mono (fun _ h c => ?_)
      (θ_run_and (Cert.QuantRefIdeal.Gen.run_main m' ρ') (Cert.QuantRefIdeal.Gen.unchanged m' ρ'))
    have e : Agree m m' c := hagree c
    exact ⟨(((h.1 c).1 7).trans (Cert.Proof.QuantRefValue.final7 m' c)).trans (G5_eq e),
      (((h.1 c).1 8).trans (Cert.Proof.QuantRefValue.final8 m' c)).trans (G6_eq e),
      (((h.1 c).1 9).trans (Cert.Proof.QuantRefValue.final9 m' c)).trans (G7_eq e),
      (((h.1 c).1 10).trans (Cert.Proof.QuantRefValue.final10 m' c)).trans (G8_eq e),
      (((h.1 c).1 11).trans (Cert.Proof.QuantRefValue.final11 m' c)).trans (G9_eq e),
      (((h.1 c).1 12).trans (Cert.Proof.QuantRefValue.final12 m' c)).trans (G10_eq e), h.2 c⟩

end Cert.Proof.QuantClaim

end
-- ==== Proof.lean ====
module

public import proofs.«01_k».proof.Defs
public import proofs.«01_k».proof.Proof.Gen.Main
public import proofs.«01_k».proof.Proof.Gen.Main.Skeleton
public import proofs.«01_k».proof.Proof.Gen.Main.Launch
public import proofs.«01_k».proof.Proof.Gen.Main.Points
public import proofs.«01_k».proof.Proof.Gen.Main.Frame
public import proofs.«01_k».proof.Proof.Gen.MainIdeal
public import proofs.«01_k».proof.Proof.Gen.MainIdeal.Skeleton
public import proofs.«01_k».proof.Proof.Gen.MainIdeal.Launch
public import proofs.«01_k».proof.Proof.Gen.MainIdeal.Points
public import proofs.«01_k».proof.Proof.Gen.MainIdeal.Frame
public import proofs.«01_k».proof.Proof.Gen.MainIdeal.Value
public import proofs.«01_k».proof.Proof.Gen.MainRefIdeal
public import proofs.«01_k».proof.Proof.Gen.MainRefIdeal.Skeleton
public import proofs.«01_k».proof.Proof.Gen.MainRefIdeal.Launch
public import proofs.«01_k».proof.Proof.Gen.MainRefIdeal.Points
public import proofs.«01_k».proof.Proof.Gen.MainRefIdeal.Frame
public import proofs.«01_k».proof.Proof.Gen.MainRefIdeal.Value
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantIdeal.Frame
public import proofs.«01_k».proof.Proof.Gen.QuantRefIdeal
public import proofs.«01_k».proof.Proof.Gen.QuantRefIdeal.Skeleton
public import proofs.«01_k».proof.Proof.Gen.QuantRefIdeal.Launch
public import proofs.«01_k».proof.Proof.Gen.QuantRefIdeal.Points
public import proofs.«01_k».proof.Proof.Gen.QuantRefIdeal.Frame
public import proofs.«01_k».proof.Proof.MainClaim
public import proofs.«01_k».proof.Proof.QuantClaim
public import Idealize.ShloMosaic.Adequacy
public import Idealize.ShloMosaic.Init

@[expose] public section

noncomputable section

namespace Cert.Proof

open Idealize.ShloMosaic Idealize.SL.Sem Cert.Main

theorem claim : Cert.Claim := ⟨Cert.Main.Gen.facts, Cert.MainIdeal.Gen.facts, Cert.MainRefIdeal.Gen.facts,
  Cert.Quant.Gen.facts, Cert.QuantIdeal.Gen.facts, Cert.QuantRefIdeal.Gen.facts,
  fun m ρ _ => Cert.Main.Gen.frame m ρ, fun m ρ _ => Cert.MainIdeal.Gen.frame m ρ, fun m ρ _ => Cert.MainRefIdeal.Gen.frame m ρ,
  fun m ρ _ => Cert.Quant.Gen.frame m ρ trivial, fun m ρ _ => Cert.QuantIdeal.Gen.frame m ρ trivial,
  fun m ρ _ => Cert.QuantRefIdeal.Gen.frame m ρ,
  trivial, Cert.Proof.MainClaim.algebraic, trivial, Cert.Proof.QuantClaim.algebraic⟩

end Cert.Proof

end
